-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x784 : Shape := ⟨2, ![16384, 784]⟩
abbrev S400x784 : Shape := ⟨2, ![400, 784]⟩
abbrev S400 : Shape := ⟨1, ![400]⟩
abbrev S200x400 : Shape := ⟨2, ![200, 400]⟩
abbrev S200 : Shape := ⟨1, ![200]⟩
abbrev S400x200 : Shape := ⟨2, ![400, 200]⟩
abbrev S784x400 : Shape := ⟨2, ![784, 400]⟩
abbrev S784 : Shape := ⟨1, ![784]⟩
abbrev S16x10 : Shape := ⟨2, ![16, 10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S400x784 : S_.BroadcastsInDim S400x784 (![] : Fin 0 → Fin S400x784.rank)
  reducesTo_S400x784_S_d0_1 : S400x784.ReducesTo [0, 1] S_
  bcast_S_S400 : S_.BroadcastsInDim S400 (![] : Fin 0 → Fin S400.rank)
  reducesTo_S400_S_d0 : S400.ReducesTo [0] S_
  bcast_S_S200x400 : S_.BroadcastsInDim S200x400 (![] : Fin 0 → Fin S200x400.rank)
  reducesTo_S200x400_S_d0_1 : S200x400.ReducesTo [0, 1] S_
  bcast_S_S200 : S_.BroadcastsInDim S200 (![] : Fin 0 → Fin S200.rank)
  reducesTo_S200_S_d0 : S200.ReducesTo [0] S_
  bcast_S_S16x10 : S_.BroadcastsInDim S16x10 (![] : Fin 0 → Fin S16x10.rank)
  reducesTo_S16x10_S_d0_1 : S16x10.ReducesTo [0, 1] S_

variable [Facts]

def fn_part1 {F : FTy → Type} [FloatOps F] (main_arg4 : FVec F S200 .f32) (main_arg9 : FVec F S16x10 .f32) (main_v13 : IVec S_ 1) (main_v16 : IVec S200x400 1) : IVec S_ 1 :=
  let main_c_5 : IVec S_ 1 := constantI S_ 1 1#1
  let main_v17 : IVec S_ 1 := (fun x v => Host.reduce IntOp.andi x v reducesTo_S200x400_S_d0_1 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S16x10 .f32 := Host.absf main_arg9
  let main_cst_8 : FVec F S_ .f32 := constant S_ .f32 0x7F800000#32
  let main_v25 : FVec F S16x10 .f32 := broadcastInDim S16x10 ![] bcast_S_S16x10 main_cst_8
  let main_v26 : IVec S16x10 1 := cmpf .olt main_v24 main_v25
  let main_c_9 : IVec S_ 1 := constantI S_ 1 1#1
  let main_v27 : IVec S_ 1 := (fun x v => Host.reduce IntOp.andi x v reducesTo_S16x10_S_d0_1 h_S_) main_v26 main_c_9
  let main_v28 : IVec S_ 1 := andi main_v23 main_v27
  main_v28

def fn {F : FTy → Type} [FloatOps F] (main_arg0 : FVec F S16384x784 .f32) (main_arg1 : FVec F S400x784 .f32) (main_arg2 : FVec F S400 .f32) (main_arg3 : FVec F S200x400 .f32) (main_arg4 : FVec F S200 .f32) (main_arg5 : FVec F S400x200 .f32) (main_arg6 : FVec F S400 .f32) (main_arg7 : FVec F S784x400 .f32) (main_arg8 : FVec F S784 .f32) (main_arg9 : FVec F S16x10 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S400x784 .f32 := Host.absf main_arg1
  let main_cst_0 : FVec F S_ .f32 := constant S_ .f32 0x7F800000#32
  let main_v5 : FVec F S400x784 .f32 := broadcastInDim S400x784 ![] bcast_S_S400x784 main_cst_0
  let main_v6 : IVec S400x784 1 := cmpf .olt main_v4 main_v5
  let main_c_1 : IVec S_ 1 := constantI S_ 1 1#1
  let main_v7 : IVec S_ 1 := (fun x v => Host.reduce IntOp.andi x v reducesTo_S400x784_S_d0_1 h_S_) main_v6 main_c_1
  let main_v8 : IVec S_ 1 := andi main_v3 main_v7
  let main_v9 : FVec F S400 .f32 := Host.absf main_arg2
  let main_cst_2 : FVec F S_ .f32 := constant S_ .f32 0x7F800000#32
  let main_v10 : FVec F S400 .f32 := broadcastInDim S400 ![] bcast_S_S400 main_cst_2
  let main_v11 : IVec S400 1 := cmpf .olt main_v9 main_v10
  let main_c_3 : IVec S_ 1 := constantI S_ 1 1#1
  let main_v12 : IVec S_ 1 := (fun x v => Host.reduce IntOp.andi x v reducesTo_S400_S_d0 h_S_) main_v11 main_c_3
  let main_v13 : IVec S_ 1 := andi main_v8 main_v12
  let main_v14 : FVec F S200x400 .f32 := Host.absf main_arg3
  let main_cst_4 : FVec F S_ .f32 := constant S_ .f32 0x7F800000#32
  let main_v15 : FVec F S200x400 .f32 := broadcastInDim S200x400 ![] bcast_S_S200x400 main_cst_4
  let main_v16 : IVec S200x400 1 := cmpf .olt main_v14 main_v15
  fn_part1 (F := F) main_arg4 main_arg9 main_v13 main_v16
-- ==== Kernel.lean ====
abbrev S16384x784 : Shape := ⟨2, ![16384, 784]⟩
abbrev S400x784 : Shape := ⟨2, ![400, 784]⟩
abbrev S400 : Shape := ⟨1, ![400]⟩
abbrev S200x400 : Shape := ⟨2, ![200, 400]⟩
abbrev S200 : Shape := ⟨1, ![200]⟩
abbrev S400x200 : Shape := ⟨2, ![400, 200]⟩
abbrev S784x400 : Shape := ⟨2, ![784, 400]⟩
abbrev S784 : Shape := ⟨1, ![784]⟩
abbrev S16x10 : Shape := ⟨2, ![16, 10]⟩
abbrev S320x200 : Shape := ⟨2, ![320, 200]⟩
abbrev S_ : Shape := ⟨0, ![]⟩
abbrev S10x16 : Shape := ⟨2, ![10, 16]⟩
abbrev S10x20x16 : Shape := ⟨3, ![10, 20, 16]⟩
abbrev S200x16 : Shape := ⟨2, ![200, 16]⟩
abbrev S1x200x1x16 : Shape := ⟨4, ![1, 200, 1, 16]⟩
abbrev S1x200x20x16 : Shape := ⟨4, ![1, 200, 20, 16]⟩
abbrev S200x320 : Shape := ⟨2, ![200, 320]⟩
abbrev S16 : Shape := ⟨1, ![16]⟩
abbrev S16x1 : Shape := ⟨2, ![16, 1]⟩
abbrev S1x16x1x1 : Shape := ⟨4, ![1, 16, 1, 1]⟩
abbrev S20x16x1x1 : Shape := ⟨4, ![20, 16, 1, 1]⟩
abbrev S320x1 : Shape := ⟨2, ![320, 1]⟩
abbrev S784x16384 : Shape := ⟨2, ![784, 16384]⟩
abbrev S400x1 : Shape := ⟨2, ![400, 1]⟩
abbrev S200x1 : Shape := ⟨2, ![200, 1]⟩
abbrev S784x1 : Shape := ⟨2, ![784, 1]⟩
abbrev S10x20x16384 : Shape := ⟨3, ![10, 20, 16384]⟩
abbrev S200x16384 : Shape := ⟨2, ![200, 16384]⟩
abbrev S784x1024 : Shape := ⟨2, ![784, 1024]⟩
abbrev S10x20x1024 : Shape := ⟨3, ![10, 20, 1024]⟩
abbrev S200x1024 : Shape := ⟨2, ![200, 1024]⟩
abbrev S400x1024 : Shape := ⟨2, ![400, 1024]⟩
abbrev S20x1024 : Shape := ⟨2, ![20, 1024]⟩
abbrev S1x20x1024 : Shape := ⟨3, ![1, 20, 1024]⟩
abbrev S320x1024 : Shape := ⟨2, ![320, 1024]⟩
abbrev S312x1024 : Shape := ⟨2, ![312, 1024]⟩
abbrev S8x1024 : Shape := ⟨2, ![8, 1024]⟩
abbrev S316x1024 : Shape := ⟨2, ![316, 1024]⟩
abbrev S4x1024 : Shape := ⟨2, ![4, 1024]⟩
abbrev S318x1024 : Shape := ⟨2, ![318, 1024]⟩
abbrev S2x1024 : Shape := ⟨2, ![2, 1024]⟩
abbrev S319x1024 : Shape := ⟨2, ![319, 1024]⟩
abbrev S1x1024 : Shape := ⟨2, ![1, 1024]⟩
abbrev S16384x10x20 : Shape := ⟨3, ![16384, 10, 20]⟩
abbrev S16384x200 : Shape := ⟨2, ![16384, 200]⟩

abbrev nBuf : Space → Nat
  | .hbm => 61
  | .vmem => 19
  | .smem => 0
  | _ => 0

abbrev bufTy : (tb : Table) → Fin (tcTables nBuf tb) → BufTy
  | .hbm, ⟨0, _⟩ => ⟨S16384x784, .f32⟩
  | .hbm, ⟨1, _⟩ => ⟨S400x784, .f32⟩
  | .hbm, ⟨2, _⟩ => ⟨S400, .f32⟩
  | .hbm, ⟨3, _⟩ => ⟨S200x400, .f32⟩
  | .hbm, ⟨4, _⟩ => ⟨S200, .f32⟩
  | .hbm, ⟨5, _⟩ => ⟨S400x200, .f32⟩
  | .hbm, ⟨6, _⟩ => ⟨S400, .f32⟩
  | .hbm, ⟨7, _⟩ => ⟨S784x400, .f32⟩
  | .hbm, ⟨8, _⟩ => ⟨S784, .f32⟩
  | .hbm, ⟨9, _⟩ => ⟨S16x10, .f32⟩
  | .hbm, ⟨10, _⟩ => ⟨S320x200, .i32⟩
  | .hbm, ⟨11, _⟩ => ⟨S_, .i32⟩
  | .hbm, ⟨12, _⟩ => ⟨S320x200, .i32⟩
  | .hbm, ⟨13, _⟩ => ⟨S320x200, .i32⟩
  | .hbm, ⟨14, _⟩ => ⟨S320x200, .i32⟩
  | .hbm, ⟨15, _⟩ => ⟨S_, .i32⟩
  | .hbm, ⟨16, _⟩ => ⟨S320x200, .i32⟩
  | .hbm, ⟨17, _⟩ => ⟨S320x200, .i32⟩
  | .hbm, ⟨18, _⟩ => ⟨S320x200, .i1⟩
  | .hbm, ⟨19, _⟩ => ⟨S_, .f32⟩
  | .hbm, ⟨20, _⟩ => ⟨S_, .f32⟩
  | .hbm, ⟨21, _⟩ => ⟨S320x200, .f32⟩
  | .hbm, ⟨22, _⟩ => ⟨S320x200, .f32⟩
  | .hbm, ⟨23, _⟩ => ⟨S320x200, .f32⟩
  | .hbm, ⟨24, _⟩ => ⟨S10x16, .f32⟩
  | .hbm, ⟨25, _⟩ => ⟨S_, .f32⟩
  | .hbm, ⟨26, _⟩ => ⟨S10x16, .f32⟩
  | .hbm, ⟨27, _⟩ => ⟨S10x16, .f32⟩
  | .hbm, ⟨28, _⟩ => ⟨S10x20x16, .f32⟩
  | .hbm, ⟨29, _⟩ => ⟨S200x16, .f32⟩
  | .hbm, ⟨30, _⟩ => ⟨S1x200x1x16, .f32⟩
  | .hbm, ⟨31, _⟩ => ⟨S1x200x20x16, .f32⟩
  | .hbm, ⟨32, _⟩ => ⟨S200x320, .f32⟩
  | .hbm, ⟨33, _⟩ => ⟨S320x200, .f32⟩
  | .hbm, ⟨34, _⟩ => ⟨S320x200, .f32⟩
  | .hbm, ⟨35, _⟩ => ⟨S16x10, .f32⟩
  | .hbm, ⟨36, _⟩ => ⟨S_, .f32⟩
  | .hbm, ⟨37, _⟩ => ⟨S16, .f32⟩
  | .hbm, ⟨38, _⟩ => ⟨S16x1, .f32⟩
  | .hbm, ⟨39, _⟩ => ⟨S1x16x1x1, .f32⟩
  | .hbm, ⟨40, _⟩ => ⟨S20x16x1x1, .f32⟩
  | .hbm, ⟨41, _⟩ => ⟨S320x1, .f32⟩
  | .hbm, ⟨42, _⟩ => ⟨S200x320, .f32⟩
  | .hbm, ⟨43, _⟩ => ⟨S10x16, .f32⟩
  | .hbm, ⟨44, _⟩ => ⟨S10x20x16, .f32⟩
  | .hbm, ⟨45, _⟩ => ⟨S200x16, .f32⟩
  | .hbm, ⟨46, _⟩ => ⟨S1x200x1x16, .f32⟩
  | .hbm, ⟨47, _⟩ => ⟨S1x200x20x16, .f32⟩
  | .hbm, ⟨48, _⟩ => ⟨S200x320, .f32⟩
  | .hbm, ⟨49, _⟩ => ⟨S200x320, .f32⟩
  | .hbm, ⟨50, _⟩ => ⟨S784x16384, .f32⟩
  | .hbm, ⟨51, _⟩ => ⟨S400x1, .f32⟩
  | .hbm, ⟨52, _⟩ => ⟨S200x1, .f32⟩
  | .hbm, ⟨53, _⟩ => ⟨S400x1, .f32⟩
  | .hbm, ⟨54, _⟩ => ⟨S784x1, .f32⟩
  | .hbm, ⟨55, _⟩ => ⟨S784x16384, .f32⟩
  | .hbm, ⟨56, _⟩ => ⟨S10x20x16384, .f32⟩
  | .hbm, ⟨57, _⟩ => ⟨S200x16384, .f32⟩
  | .hbm, ⟨58, _⟩ => ⟨S16384x784, .f32⟩
  | .hbm, ⟨59, _⟩ => ⟨S16384x10x20, .f32⟩
  | .hbm, ⟨60, _⟩ => ⟨S16384x200, .f32⟩
  | .local _ .vmem, ⟨0, _⟩ => ⟨S784x1024, .f32⟩
  | .local _ .vmem, ⟨1, _⟩ => ⟨S784x1024, .f32⟩
  | .local _ .vmem, ⟨2, _⟩ => ⟨S400x784, .f32⟩
  | .local _ .vmem, ⟨3, _⟩ => ⟨S400x1, .f32⟩
  | .local _ .vmem, ⟨4, _⟩ => ⟨S200x400, .f32⟩
  | .local _ .vmem, ⟨5, _⟩ => ⟨S200x1, .f32⟩
  | .local _ .vmem, ⟨6, _⟩ => ⟨S320x200, .f32⟩
  | .local _ .vmem, ⟨7, _⟩ => ⟨S320x1, .f32⟩
  | .local _ .vmem, ⟨8, _⟩ => ⟨S200x320, .f32⟩
  | .local _ .vmem, ⟨9, _⟩ => ⟨S400x200, .f32⟩
  | .local _ .vmem, ⟨10, _⟩ => ⟨S400x1, .f32⟩
  | .local _ .vmem, ⟨11, _⟩ => ⟨S784x400, .f32⟩
  | .local _ .vmem, ⟨12, _⟩ => ⟨S784x1, .f32⟩
  | .local _ .vmem, ⟨13, _⟩ => ⟨S784x1024, .f32⟩
  | .local _ .vmem, ⟨14, _⟩ => ⟨S784x1024, .f32⟩
  | .local _ .vmem, ⟨15, _⟩ => ⟨S10x20x1024, .f32⟩
  | .local _ .vmem, ⟨16, _⟩ => ⟨S10x20x1024, .f32⟩
  | .local _ .vmem, ⟨17, _⟩ => ⟨S200x1024, .f32⟩
  | .local _ .vmem, ⟨18, _⟩ => ⟨S200x1024, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S784x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S320x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S784x400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S784x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S784x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S10x20x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S200x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16384x784 : Shape := ⟨2, ![16384, 784]⟩
abbrev S400x784 : Shape := ⟨2, ![400, 784]⟩
abbrev S400 : Shape := ⟨1, ![400]⟩
abbrev S200x400 : Shape := ⟨2, ![200, 400]⟩
abbrev S200 : Shape := ⟨1, ![200]⟩
abbrev S400x200 : Shape := ⟨2, ![400, 200]⟩
abbrev S784x400 : Shape := ⟨2, ![784, 400]⟩
abbrev S784 : Shape := ⟨1, ![784]⟩
abbrev S16x10 : Shape := ⟨2, ![16, 10]⟩
abbrev S16384x400 : Shape := ⟨2, ![16384, 400]⟩
abbrev S1x400 : Shape := ⟨2, ![1, 400]⟩
abbrev S_ : Shape := ⟨0, ![]⟩
abbrev S16384x200 : Shape := ⟨2, ![16384, 200]⟩
abbrev S1x200 : Shape := ⟨2, ![1, 200]⟩
abbrev S16384x10x20 : Shape := ⟨3, ![16384, 10, 20]⟩
abbrev S16384x20x10 : Shape := ⟨3, ![16384, 20, 10]⟩
abbrev S327680x10 : Shape := ⟨2, ![327680, 10]⟩
abbrev S327680 : Shape := ⟨1, ![327680]⟩
abbrev S327680x1 : Shape := ⟨2, ![327680, 1]⟩
abbrev S10x16 : Shape := ⟨2, ![10, 16]⟩
abbrev S327680x16 : Shape := ⟨2, ![327680, 16]⟩
abbrev S16 : Shape := ⟨1, ![16]⟩
abbrev S1x16 : Shape := ⟨2, ![1, 16]⟩
abbrev S1 : Shape := ⟨1, ![1]⟩
abbrev S1x1 : Shape := ⟨2, ![1, 1]⟩
abbrev S1x784 : Shape := ⟨2, ![1, 784]⟩

abbrev nBuf : Space → Nat
  | .hbm => 97
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S400x784, .f32⟩
  | .hbm, ⟨2, _⟩ => ⟨S400, .f32⟩
  | .hbm, ⟨3, _⟩ => ⟨S200x400, .f32⟩
  | .hbm, ⟨4, _⟩ => ⟨S200, .f32⟩
  | .hbm, ⟨5, _⟩ => ⟨S400x200, .f32⟩
  | .hbm, ⟨6, _⟩ => ⟨S400, .f32⟩
  | .hbm, ⟨7, _⟩ => ⟨S784x400, .f32⟩
  | .hbm, ⟨8, _⟩ => ⟨S784, .f32⟩
  | .hbm, ⟨9, _⟩ => ⟨S16x10, .f32⟩
  | .hbm, ⟨10, _⟩ => ⟨S784x400, .f32⟩
  | .hbm, ⟨11, _⟩ => ⟨S16384x400, .f32⟩
  | .hbm, ⟨12, _⟩ => ⟨S1x400, .f32⟩
  | .hbm, ⟨13, _⟩ => ⟨S16384x400, .f32⟩
  | .hbm, ⟨14, _⟩ => ⟨S16384x400, .f32⟩
  | .hbm, ⟨15, _⟩ => ⟨S_, .f32⟩
  | .hbm, ⟨16, _⟩ => ⟨S16384x400, .f32⟩
  | .hbm, ⟨17, _⟩ => ⟨S16384x400, .f32⟩
  | .hbm, ⟨18, _⟩ => ⟨S400x200, .f32⟩
  | .hbm, ⟨19, _⟩ => ⟨S16384x200, .f32⟩
  | .hbm, ⟨20, _⟩ => ⟨S1x200, .f32⟩
  | .hbm, ⟨21, _⟩ => ⟨S16384x200, .f32⟩
  | .hbm, ⟨22, _⟩ => ⟨S16384x200, .f32⟩
  | .hbm, ⟨23, _⟩ => ⟨S16384x10x20, .f32⟩
  | .hbm, ⟨24, _⟩ => ⟨S16384x20x10, .f32⟩
  | .hbm, ⟨25, _⟩ => ⟨S327680x10, .f32⟩
  | .hbm, ⟨26, _⟩ => ⟨S327680x10, .f32⟩
  | .hbm, ⟨27, _⟩ => ⟨S_, .f32⟩
  | .hbm, ⟨28, _⟩ => ⟨S327680, .f32⟩
  | .hbm, ⟨29, _⟩ => ⟨S327680x1, .f32⟩
  | .hbm, ⟨30, _⟩ => ⟨S_, .f32⟩
  | .hbm, ⟨31, _⟩ => ⟨S327680x10, .f32⟩
  | .hbm, ⟨32, _⟩ => ⟨S327680x10, .f32⟩
  | .hbm, ⟨33, _⟩ => ⟨S10x16, .f32⟩
  | .hbm, ⟨34, _⟩ => ⟨S327680x16, .f32⟩
  | .hbm, ⟨35, _⟩ => ⟨S327680x16, .f32⟩
  | .hbm, ⟨36, _⟩ => ⟨S327680x16, .f32⟩
  | .hbm, ⟨37, _⟩ => ⟨S16x10, .f32⟩
  | .hbm, ⟨38, _⟩ => ⟨S_, .f32⟩
  | .hbm, ⟨39, _⟩ => ⟨S16, .f32⟩
  | .hbm, ⟨40, _⟩ => ⟨S1x16, .f32⟩
  | .hbm, ⟨41, _⟩ => ⟨S327680x16, .f32⟩
  | .hbm, ⟨42, _⟩ => ⟨S327680x16, .f32⟩
  | .hbm, ⟨43, _⟩ => ⟨S327680x16, .i32⟩
  | .hbm, ⟨44, _⟩ => ⟨S_, .f32⟩
  | .hbm, ⟨45, _⟩ => ⟨S_, .i32⟩
  | .hbm, ⟨46, _⟩ => ⟨S327680, .f32⟩
  | .hbm, ⟨47, _⟩ => ⟨S327680, .i32⟩
  | .hbm, ⟨48, _⟩ => ⟨S_, .i32⟩
  | .hbm, ⟨49, _⟩ => ⟨S327680, .i32⟩
  | .hbm, ⟨50, _⟩ => ⟨S327680, .i1⟩
  | .hbm, ⟨51, _⟩ => ⟨S_, .i32⟩
  | .hbm, ⟨52, _⟩ => ⟨S327680, .i32⟩
  | .hbm, ⟨53, _⟩ => ⟨S327680, .i32⟩
  | .hbm, ⟨54, _⟩ => ⟨S327680, .i32⟩
  | .hbm, ⟨55, _⟩ => ⟨S327680x1, .i32⟩
  | .hbm, ⟨56, _⟩ => ⟨S1, .i32⟩
  | .hbm, ⟨57, _⟩ => ⟨S_, .i32⟩
  | .hbm, ⟨58, _⟩ => ⟨S327680x1, .i32⟩
  | .hbm, ⟨59, _⟩ => ⟨S327680x1, .i1⟩
  | .hbm, ⟨60, _⟩ => ⟨S1x1, .i32⟩
  | .hbm, ⟨61, _⟩ => ⟨S327680x1, .i32⟩
  | .hbm, ⟨62, _⟩ => ⟨S327680x1, .i1⟩
  | .hbm, ⟨63, _⟩ => ⟨S327680x1, .i1⟩
  | .hbm, ⟨64, _⟩ => ⟨S_, .i1⟩
  | .hbm, ⟨65, _⟩ => ⟨S327680, .i1⟩
  | .hbm, ⟨66, _⟩ => ⟨S327680x10, .f32⟩
  | .hbm, ⟨67, _⟩ => ⟨S327680x10, .i1⟩
  | .hbm, ⟨68, _⟩ => ⟨S_, .f32⟩
  | .hbm, ⟨69, _⟩ => ⟨S327680x10, .f32⟩
  | .hbm, ⟨70, _⟩ => ⟨S327680x10, .f32⟩
  | .hbm, ⟨71, _⟩ => ⟨S16384x20x10, .f32⟩
  | .hbm, ⟨72, _⟩ => ⟨S16384x10x20, .f32⟩
  | .hbm, ⟨73, _⟩ => ⟨S16384x200, .f32⟩
  | .hbm, ⟨74, _⟩ => ⟨S16384x200, .f32⟩
  | .hbm, ⟨75, _⟩ => ⟨S16384x200, .f32⟩
  | .hbm, ⟨76, _⟩ => ⟨S200x400, .f32⟩
  | .hbm, ⟨77, _⟩ => ⟨S16384x400, .f32⟩
  | .hbm, ⟨78, _⟩ => ⟨S1x400, .f32⟩
  | .hbm, ⟨79, _⟩ => ⟨S16384x400, .f32⟩
  | .hbm, ⟨80, _⟩ => ⟨S16384x400, .f32⟩
  | .hbm, ⟨81, _⟩ => ⟨S_, .f32⟩
  | .hbm, ⟨82, _⟩ => ⟨S16384x400, .f32⟩
  | .hbm, ⟨83, _⟩ => ⟨S16384x400, .f32⟩
  | .hbm, ⟨84, _⟩ => ⟨S400x784, .f32⟩
  | .hbm, ⟨85, _⟩ => ⟨S16384x784, .f32⟩
  | .hbm, ⟨86, _⟩ => ⟨S1x784, .f32⟩
  | .hbm, ⟨87, _⟩ => ⟨S16384x784, .f32⟩
  | .hbm, ⟨88, _⟩ => ⟨S16384x784, .f32⟩
  | .hbm, ⟨89, _⟩ => ⟨S16384x784, .f32⟩
  | .hbm, ⟨90, _⟩ => ⟨S16384x784, .f32⟩
  | .hbm, ⟨91, _⟩ => ⟨S_, .f32⟩
  | .hbm, ⟨92, _⟩ => ⟨S16384x784, .f32⟩
  | .hbm, ⟨93, _⟩ => ⟨S16384x784, .f32⟩
  | .hbm, ⟨94, _⟩ => ⟨S_, .f32⟩
  | .hbm, ⟨95, _⟩ => ⟨S16384x784, .f32⟩
  | .hbm, ⟨96, _⟩ => ⟨S16384x784, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_v0 : Ref sig .tc := ⟨.hbm, 43, rfl⟩
abbrev main_call1_cst : Ref sig .tc := ⟨.hbm, 44, rfl⟩
abbrev main_call1_c : Ref sig .tc := ⟨.hbm, 45, rfl⟩
abbrev main_call1_v1_0 : Ref sig .tc := ⟨.hbm, 46, rfl⟩
abbrev main_v28 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_call3_cst : Ref sig .tc := ⟨.hbm, 81, rfl⟩
abbrev main_call3_v0 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_2 : Ref sig .tc := ⟨.hbm, 91, rfl⟩
abbrev main_v48 : Ref sig .tc := ⟨.hbm, 92, rfl⟩
abbrev main_v49 : Ref sig .tc := ⟨.hbm, 93, rfl⟩
abbrev main_cst_3 : Ref sig .tc := ⟨.hbm, 94, rfl⟩
abbrev main_v50 : Ref sig .tc := ⟨.hbm, 95, rfl⟩
abbrev main_v51 : Ref sig .tc := ⟨.hbm, 96, rfl⟩

abbrev nD : Nat := 1
abbrev τ : Topo := Topo.v7x

variable {F : FTy → Type} [FloatOps F]
-- ==== Proof.Winner.lean ====
/-
  The least of sixteen scores, ties to the smaller code: what it means to win, that a winner is unique and does not
  change when one real number is added to every score, and the two ways the programs find it — four rounds of
  exchanges with the partner whose code differs in one bit, and a fold over the list of (score, code) pairs.
-/
module

public import Mathlib.Data.EReal.Operations
public import Mathlib.Algebra.BigOperators.Fin

@[expose] public section

noncomputable section

namespace Cert.Proof.Winner

/-- Code `a` beats code `b` under the scores `d`: a smaller score, or the same score and a smaller code. -/
def Beats (d : Fin 16 → EReal) (a b : Fin 16) : Prop := d a < d b ∨ d a = d b ∧ a < b

/-- Code `w` wins under the scores `d`: no code beats it. -/
def Wins (d : Fin 16 → EReal) (w : Fin 16) : Prop := ∀ k, ¬ Beats d k w

theorem not_beats_iff (d : Fin 16 → EReal) (a b : Fin 16) : ¬ Beats d a b ↔ d b < d a ∨ d b = d a ∧ b ≤ a := by
  unfold Beats
  rcases lt_trichotomy (d a) (d b) with h | h | h
  · simp [h, h.not_gt, h.ne']
  · simp [h]
  · simp [h, h.not_gt, h.ne']

/-- Not beating is transitive. -/
theorem not_beats_trans {d : Fin 16 → EReal} {a b c : Fin 16} (h : ¬ Beats d b a) (h' : ¬ Beats d c b) : ¬ Beats d c a := by
  rw [not_beats_iff] at *
  rcases h with h | ⟨h, i⟩ <;> rcases h' with h' | ⟨h', i'⟩
  · exact .inl (h.trans h')
  · exact .inl (h' ▸ h)
  · exact .inl (h ▸ h')
  · exact .inr ⟨h.trans h', i.trans i'⟩

/-- Two winners under the same scores are the same code. -/
theorem wins_unique {d : Fin 16 → EReal} {a b : Fin 16} (ha : Wins d a) (hb : Wins d b) : a = b := by
  have h := (not_beats_iff d b a).1 (ha b)
  have h' := (not_beats_iff d a b).1 (hb a)
  rcases h with h | ⟨h, i⟩ <;> rcases h' with h' | ⟨h', i'⟩
  · exact absurd h' h.not_gt
  · exact absurd h h'.not_gt
  · exact absurd h' h.not_gt
  · exact le_antisymm i i'

/-- Scores that compare alike have the same winners. -/
theorem wins_congr {d d' : Fin 16 → EReal} (h : ∀ a b, d a < d b ↔ d' a < d' b) {w : Fin 16} (hw : Wins d w) : Wins d' w := by
  have e : ∀ a b, d a = d b ↔ d' a = d' b := fun a b => by
    rw [le_antisymm_iff, le_antisymm_iff, ← not_lt, ← not_lt, ← not_lt, ← not_lt, h, h]
  exact fun k hk => hw k (hk.imp (h k w).2 (And.imp_left (e k w).2))

open Classical in
/-- The better of two codes. -/
def pick (d : Fin 16 → EReal) (a b : Fin 16) : Fin 16 := if Beats d a b then a else b

theorem not_beats_pick_left (d : Fin 16 → EReal) (a b : Fin 16) : ¬ Beats d a (pick d a b) := by
  unfold pick; split
  · simp [not_beats_iff]
  · assumption

theorem not_beats_pick_right (d : Fin 16 → EReal) (a b : Fin 16) : ¬ Beats d b (pick d a b) := by
  unfold pick; split
  · next h =>
    rw [not_beats_iff]; exact h.imp_right (And.imp_right le_of_lt)
  · simp [not_beats_iff]

/-- The code that differs from `r` in the bits `sh`. -/
def partner (sh : Fin 16) (r : Fin 16) : Fin 16 := r ^^^ sh

/-- One round: every place takes the better of its own code and its partner's. -/
def exchange (d : Fin 16 → EReal) (sh : Fin 16) (w : Fin 16 → Fin 16) : Fin 16 → Fin 16 :=
  fun r => pick d (w (partner sh r)) (w r)

/-- The codes that the sixteen places hold after the four rounds. -/
def rounds (d : Fin 16 → EReal) : Fin 16 → Fin 16 := exchange d 1 (exchange d 2 (exchange d 4 (exchange d 8 id)))

/-- What a place has seen after a round: nothing that it or its partner had seen beats its code. -/
theorem exchange_covers {d : Fin 16 → EReal} {sh : Fin 16} {w : Fin 16 → Fin 16} {P Q : Fin 16 → Fin 16 → Prop}
    (h : ∀ r k, P r k → ¬ Beats d k (w r)) (hQ : ∀ r k, Q r k → P r k ∨ P (partner sh r) k) :
    ∀ r k, Q r k → ¬ Beats d k (exchange d sh w r) := fun r k hk =>
  (hQ r k hk).elim (fun p => not_beats_trans (not_beats_pick_right _ _ _) (h r k p))
    (fun p => not_beats_trans (not_beats_pick_left _ _ _) (h _ k p))

/-- After the four rounds every place holds a winner. -/
theorem rounds_wins (d : Fin 16 → EReal) (r : Fin 16) : Wins d (rounds d r) := fun k => by
  have h0 : ∀ r k : Fin 16, r = k → ¬ Beats d k (id r) := by rintro r k rfl; simp [not_beats_iff]
  have h1 := exchange_covers (sh := 8) (Q := fun r k => r.val % 8 = k.val % 8) h0 (by unfold partner; decide)
  have h2 := exchange_covers (sh := 4) (Q := fun r k => r.val % 4 = k.val % 4) h1 (by unfold partner; decide)
  have h3 := exchange_covers (sh := 2) (Q := fun r k => r.val % 2 = k.val % 2) h2 (by unfold partner; decide)
  exact exchange_covers (sh := 1) (Q := fun _ _ => True) h3 (by unfold partner; decide) r k trivial

/-- The winning code. -/
def best (d : Fin 16 → EReal) : Fin 16 := rounds d 0

theorem best_wins (d : Fin 16 → EReal) : Wins d (best d) := rounds_wins d 0

theorem rounds_eq_best (d : Fin 16 → EReal) (r : Fin 16) : rounds d r = best d := wins_unique (rounds_wins d r) (best_wins d)

/-- A fold that takes the better of two pairs, from a pair of score `⊤`, over pairs `(d k, k)` that include every code,
    all of finite score, ends at the winner's pair. -/
theorem foldl_best {β ι : Type*} (d : Fin 16 → EReal) (hd : ∀ k, d k < ⊤) (code : Fin 16 → β)
    (f : EReal × β → EReal × β → EReal × β) (i₀ : β) (L : List ι) (kf : ι → Fin 16) (hL : ∀ k, ∃ n ∈ L, kf n = k)
    (h0 : ∀ k, f (⊤, i₀) (d k, code k) = (d k, code k))
    (hf : ∀ a b, f (d a, code a) (d b, code b) = if d a < d b ∨ d a = d b ∧ a < b then (d a, code a) else (d b, code b)) :
    L.foldl (fun r n => f r (d (kf n), code (kf n))) (⊤, i₀) = (d (best d), code (best d)) := by
  have key : ∀ (L : List ι) (a : Fin 16), ∃ w, L.foldl (fun r n => f r (d (kf n), code (kf n))) (d a, code a) = (d w, code w)
      ∧ ¬ Beats d a w ∧ ∀ n ∈ L, ¬ Beats d (kf n) w := by
    intro L
    induction L with
    | nil => exact fun a => ⟨a, rfl, by simp [not_beats_iff], by simp⟩
    | cons n L ih =>
      intro a
      have e : f (d a, code a) (d (kf n), code (kf n)) = (d (pick d a (kf n)), code (pick d a (kf n))) := by
        rw [hf]; unfold pick Beats; split <;> rfl
      obtain ⟨w, h, ha, hn⟩ := ih (pick d a (kf n))
      refine ⟨w, by rw [List.foldl_cons, e, h], not_beats_trans ha (not_beats_pick_left _ _ _), fun m hm => ?_⟩
      rcases List.mem_cons.1 hm with rfl | hm
      · exact not_beats_trans ha (not_beats_pick_right _ _ _)
      · exact hn m hm
  cases L with
  | nil => obtain ⟨n, hn, _⟩ := hL 0; simp at hn
  | cons n L =>
    obtain ⟨w, h, ha, hn⟩ := key L (kf n)
    rw [List.foldl_cons, h0, h]
    have hw : Wins d w := fun k => by
      obtain ⟨m, hm, rfl⟩ := hL k
      rcases List.mem_cons.1 hm with rfl | hm
      · exact ha
      · exact hn m hm
    rw [wins_unique hw (best_wins d)]

end Cert.Proof.Winner

end
-- ==== Proof.Spec.lean ====
/-
  The mathematics of one row of the batch, over the extended reals: the encoder's two layers, the score of each code of
  the codebook at each of the twenty places of the embedding, the nearest code, and the decoder. The scores are stated
  as the kernel takes them, without the squared length of the row; `best_fullScore` says that the scores with the
  squared length have the same winner where the numbers are finite. Two sums over a block-diagonal table collapse to the
  block on the diagonal (`sum_same_column`, `sum_one_hot`).
-/
module

public import proofs.«01_k».proof.Proof.Winner
public import Idealize.ShloMosaic.PureOps.Ideal

@[expose] public section

noncomputable section

namespace Cert.Proof.Spec

open Winner
open scoped BigOperators

/-- The weights, the biases and the codebook. -/
structure Params where
  w1 : Fin 400 → Fin 784 → EReal
  b1 : Fin 400 → EReal
  w2 : Fin 200 → Fin 400 → EReal
  b2 : Fin 200 → EReal
  w3 : Fin 400 → Fin 200 → EReal
  b3 : Fin 400 → EReal
  w4 : Fin 784 → Fin 400 → EReal
  b4 : Fin 784 → EReal
  cb : Fin 16 → Fin 10 → EReal

/-- Component `e` at place `s` of the embedding. -/
def at_ (e : Fin 10) (s : Fin 20) : Fin 200 := ⟨e.val * 20 + s.val, by omega⟩
/-- The component of a position of the embedding, -/
def comp (j : Fin 200) : Fin 10 := ⟨j.val / 20, by omega⟩
/-- and its place. -/
def place (j : Fin 200) : Fin 20 := ⟨j.val % 20, by omega⟩

/-- Code `k` at place `s` among the rows of the scores. -/
def row (s : Fin 20) (k : Fin 16) : Fin 320 := ⟨s.val * 16 + k.val, by omega⟩
/-- The place of a row of the scores, -/
def rowPlace (c : Fin 320) : Fin 20 := ⟨c.val / 16, by omega⟩
/-- and its code. -/
def rowCode (c : Fin 320) : Fin 16 := ⟨c.val % 16, by omega⟩

theorem row_eq (c : Fin 320) : row (rowPlace c) (rowCode c) = c := Fin.ext (by simp only [row, rowPlace, rowCode]; omega)

/-- The encoder's first layer. -/
def h1 (P : Params) (x : Fin 784 → EReal) (i : Fin 400) : EReal := max ((∑ k, P.w1 i k * x k) + P.b1 i) 0
/-- The encoder's second layer: the embedding. -/
def h2 (P : Params) (x : Fin 784 → EReal) (j : Fin 200) : EReal := (∑ i, P.w2 j i * h1 P x i) + P.b2 j
/-- The score of code `k` for the vector `z`, without the vector's squared length. -/
def score (cb : Fin 16 → Fin 10 → EReal) (z : Fin 10 → EReal) (k : Fin 16) : EReal :=
  (∑ e, ((-2 : ℝ) : EReal) * cb k e * z e) + ∑ e, cb k e * cb k e
/-- The score with it: the squared distance, multiplied out. -/
def fullScore (cb : Fin 16 → Fin 10 → EReal) (z : Fin 10 → EReal) (k : Fin 16) : EReal :=
  (∑ e, z e * z e) - (∑ e, ((2 : ℝ) : EReal) * z e * cb k e) + ∑ e, cb k e * cb k e
/-- The nearest code at place `s`. -/
def code (P : Params) (x : Fin 784 → EReal) (s : Fin 20) : Fin 16 := best (score P.cb fun e => h2 P x (at_ e s))
/-- The embedding with each vector replaced by its nearest code. -/
def quant (P : Params) (x : Fin 784 → EReal) (j : Fin 200) : EReal := P.cb (code P x (place j)) (comp j)
/-- The decoder's first layer. -/
def h3 (P : Params) (x : Fin 784 → EReal) (i : Fin 400) : EReal := max ((∑ j, P.w3 i j * quant P x j) + P.b3 i) 0
/-- The decoder's second layer, before the logistic function. -/
def h4 (P : Params) (x : Fin 784 → EReal) (n : Fin 784) : EReal := (∑ i, P.w4 n i * h3 P x i) + P.b4 n

/-! ## Real numbers -/

/-- `v` is a real number. -/
def Real (v : EReal) : Prop := ∃ r : ℝ, v = r

theorem Real.add {a b : EReal} : Real a → Real b → Real (a + b) := fun ⟨r, h⟩ ⟨s, h'⟩ => ⟨r + s, by rw [h, h', EReal.coe_add]⟩
theorem Real.mul {a b : EReal} : Real a → Real b → Real (a * b) := fun ⟨r, h⟩ ⟨s, h'⟩ => ⟨r * s, by rw [h, h', EReal.coe_mul]⟩
theorem Real.max {a b : EReal} (ha : Real a) (hb : Real b) : Real (max a b) := by rcases max_choice a b with h | h <;> rw [h] <;> assumption
theorem Real.sum {ι : Type*} (s : Finset ι) {f : ι → EReal} (h : ∀ i, Real (f i)) : Real (∑ i ∈ s, f i) := by
  choose g hg using h
  exact ⟨∑ i ∈ s, g i, by simp only [hg]; induction s using Finset.cons_induction <;> simp_all⟩

theorem sum_coe {ι : Type*} (s : Finset ι) (f : ι → ℝ) : ∑ i ∈ s, (f i : EReal) = ((∑ i ∈ s, f i : ℝ) : EReal) := by
  induction s using Finset.cons_induction <;> simp_all

/-- A real number added and taken away again leaves any value as it was. -/
theorem Real.add_sub_cancel {b : EReal} (hb : Real b) (a : EReal) : a + b - b = a := by
  obtain ⟨r, rfl⟩ := hb
  exact EReal.add_sub_cancel_right

/-- The embedding of real numbers is real. -/
theorem real_h2 {P : Params} {x : Fin 784 → EReal} (hx : ∀ k, Real (x k)) (h1' : ∀ i k, Real (P.w1 i k)) (hb1 : ∀ i, Real (P.b1 i))
    (h2' : ∀ i k, Real (P.w2 i k)) (hb2 : ∀ i, Real (P.b2 i)) (j : Fin 200) : Real (h2 P x j) :=
  .add (.sum _ fun i => .mul (h2' j i) (.max (.add (.sum _ fun k => .mul (h1' i k) (hx k)) (hb1 i)) ⟨0, rfl⟩)) (hb2 j)

/-- Over real numbers the full score is the score and the vector's squared length. -/
theorem fullScore_eq {cb : Fin 16 → Fin 10 → EReal} {z : Fin 10 → EReal} (hc : ∀ k e, Real (cb k e)) (hz : ∀ e, Real (z e)) :
    ∃ (n : ℝ) (d : Fin 16 → ℝ), (∀ k, score cb z k = d k) ∧ ∀ k, fullScore cb z k = ((n + d k : ℝ) : EReal) := by
  choose c hc using hc
  choose y hy using hz
  refine ⟨∑ e, y e * y e, fun k => (∑ e, -2 * c k e * y e) + ∑ e, c k e * c k e, fun k => ?_, fun k => ?_⟩
  · simp only [score, hc, hy, ← EReal.coe_mul, sum_coe, ← EReal.coe_add]
  · simp only [fullScore, hc, hy, ← EReal.coe_mul, sum_coe, ← EReal.coe_add, ← EReal.coe_sub]
    congr 1
    rw [← add_assoc, sub_eq_add_neg, ← Finset.sum_neg_distrib]
    congr 2
    exact Finset.sum_congr rfl fun e _ => by ring

/-- So the two scores have the same winner, -/
theorem best_fullScore {cb : Fin 16 → Fin 10 → EReal} {z : Fin 10 → EReal} (hc : ∀ k e, Real (cb k e)) (hz : ∀ e, Real (z e)) :
    best (fullScore cb z) = best (score cb z) := by
  obtain ⟨n, d, h, h'⟩ := fullScore_eq hc hz
  refine wins_unique (wins_congr (fun a b => ?_) (best_wins _)) (best_wins _)
  rw [h, h, h', h', EReal.coe_lt_coe_iff, EReal.coe_lt_coe_iff, add_lt_add_iff_left]

/-- and the full score stays below `⊤`. -/
theorem fullScore_lt {cb : Fin 16 → Fin 10 → EReal} {z : Fin 10 → EReal} (hc : ∀ k e, Real (cb k e)) (hz : ∀ e, Real (z e)) (k : Fin 16) :
    fullScore cb z k < ⊤ := by
  obtain ⟨n, d, _, h'⟩ := fullScore_eq hc hz
  rw [h']; exact EReal.coe_lt_top _

/-! ## Block-diagonal tables -/

/-- One where row `c` of the scores and position `j` of the embedding lie at one place, zero elsewhere. -/
def same (c : Fin 320) (j : Fin 200) : EReal := if c.val / 16 = j.val % 20 then 1 else 0

/-- A sum over the positions of the embedding, masked to the place of row `c`, is the sum over the components there. -/
theorem sum_same_column (c : Fin 320) (a : Fin 10 → EReal) (h : Fin 200 → EReal) :
    ∑ j, same c j * a (comp j) * h j = ∑ e, a e * h (at_ e (rowPlace c)) := by
  rw [← (finProdFinEquiv (m := 10) (n := 20)).sum_comp, Fintype.sum_prod_type]
  refine Finset.sum_congr rfl fun e _ => ?_
  rw [Finset.sum_eq_single (rowPlace c)]
  · have h1 : finProdFinEquiv (e, rowPlace c) = at_ e (rowPlace c) := Fin.ext (by simp [finProdFinEquiv, at_]; omega)
    have h2 : comp (at_ e (rowPlace c)) = e := Fin.ext (by simp only [comp, at_, rowPlace]; omega)
    rw [h1, h2, same, if_pos (by simp only [at_, rowPlace]; omega), one_mul]
  · intro s _ hs
    have : ¬ c.val / 16 = (finProdFinEquiv (m := 10) (n := 20) (e, s)).val % 20 := fun h => hs (Fin.ext (by
      simp [finProdFinEquiv] at h; simp only [rowPlace]; omega))
    rw [same, if_neg this, zero_mul, zero_mul]
  · simp

/-- A sum over the rows of the scores, masked to one place and to one code there, is that code's term. -/
theorem sum_one_hot (j : Fin 200) (a : Fin 16 → EReal) (w : Fin 20 → Fin 16) :
    ∑ c, same c j * a (rowCode c) * (if rowCode c = w (rowPlace c) then 1 else 0) = a (w (place j)) := by
  rw [Finset.sum_eq_single (row (place j) (w (place j)))]
  · have h1 : rowCode (row (place j) (w (place j))) = w (place j) := Fin.ext (by simp only [rowCode, row]; omega)
    have h2 : rowPlace (row (place j) (w (place j))) = place j := Fin.ext (by simp only [rowPlace, row]; omega)
    rw [h1, h2, if_pos rfl, mul_one, same, if_pos (by simp only [row, place]; omega), one_mul]
  · intro c _ hc
    by_cases h : c.val / 16 = j.val % 20
    · have hp : rowPlace c = place j := Fin.ext h
      rw [if_neg, mul_zero]
      intro h'
      exact hc (by rw [← hp, ← h', row_eq])
    · rw [same, if_neg h, zero_mul, zero_mul]
  · simp

end Cert.Proof.Spec

end
-- ==== Proof.Rounds.lean ====
/-
  One round of the kernel's search, as the body computes it on a whole block of scores: each row takes the score and the
  code of its partner row — the rows moved up by `n`, or down by `n`, whichever stays in the group of sixteen — and keeps
  them where they beat its own. `holds_step` says that this is one round of Winner.lean in every group and every column;
  `one_hot` that the fourth round leaves the winner.
-/
module

public import proofs.«01_k».proof.Proof.Spec
public import proofs.«01_k».proof.Proof.Gen.KernelIdeal.Skeleton
public import Idealize.ShloMosaic.Lib.Pointwise
public import Idealize.ShloMosaic.Lib.Pointwise.IndexVar

@[expose] public section

set_option maxRecDepth 16384

noncomputable section

namespace Cert.Proof.Rounds

open Cert.KernelIdeal Cert.KernelIdeal.Gen
open Idealize.ShloMosaic Winner Spec

/-- A code as the word that the programs hold it in. -/
def word (k : Fin 16) : BitVec 32 := BitVec.ofNat 32 k.val

theorem slt_word (a b : Fin 16) : IntOp.cmpi .slt (word a) (word b) = BitVec.ofBool (decide (a < b)) := by revert a b; decide
theorem eq_word (a b : Fin 16) : IntOp.cmpi .eq (word a) (word b) = BitVec.ofBool (decide (a = b)) := by revert a b; decide

/-- The rows' partners: the rows `n` further down where the mask is one, `n` further up elsewhere, the ends wrapped. -/
def swap {α : Type} {m n : Nat} (hs₁ : S320x1024.Slices ![n, 0] ⟨2, ![m, 1024]⟩) (hs₂ : S320x1024.Slices ![0, 0] ⟨2, ![n, 1024]⟩)
    (hc : Shape.Concatenates [⟨2, ![m, 1024]⟩, ⟨2, ![n, 1024]⟩] S320x1024 0)
    (hs₃ : S320x1024.Slices ![m, 0] ⟨2, ![n, 1024]⟩) (hs₄ : S320x1024.Slices ![0, 0] ⟨2, ![m, 1024]⟩)
    (hc' : Shape.Concatenates [⟨2, ![n, 1024]⟩, ⟨2, ![m, 1024]⟩] S320x1024 0)
    (low : IVec S320x1024 1) (v : S320x1024.Idx → α) : S320x1024.Idx → α :=
  select low
    (concatenate S320x1024 0 [⟨⟨2, ![m, 1024]⟩, extractStridedSlice ⟨2, ![m, 1024]⟩ ![n, 0] v hs₁⟩, ⟨⟨2, ![n, 1024]⟩, extractStridedSlice ⟨2, ![n, 1024]⟩ ![0, 0] v hs₂⟩] hc)
    (concatenate S320x1024 0 [⟨⟨2, ![n, 1024]⟩, extractStridedSlice ⟨2, ![n, 1024]⟩ ![m, 0] v hs₃⟩, ⟨⟨2, ![m, 1024]⟩, extractStridedSlice ⟨2, ![m, 1024]⟩ ![0, 0] v hs₄⟩] hc')

/-- Where the bit `b` of the codes is zero. -/
def lowBit (off : IVec S320x1024 32) (b : BitVec 32) : IVec S320x1024 1 :=
  cmpi .eq (andi off (broadcast S320x1024 b)) (broadcast S320x1024 0#32)

/-- Every row holds its code. -/
def IsCode (off : IVec S320x1024 32) : Prop := ∀ s k l, off (ix2 (row s k) l) = word k

/-- For one bit of the codes: it is zero where the partner's code is the greater by it, -/
theorem bit_word : ∀ sh : Fin 16, (sh = 8 ∨ sh = 4 ∨ sh = 2 ∨ sh = 1) → ∀ k : Fin 16,
    IntOp.cmpi .eq (IntOp.andi (word k) (word sh)) 0#32 = BitVec.ofBool (decide ((partner sh k).val = k.val + sh.val)) := by
  unfold word partner; decide
/-- and elsewhere the partner's code is the smaller by it. -/
theorem partner_val : ∀ sh : Fin 16, (sh = 8 ∨ sh = 4 ∨ sh = 2 ∨ sh = 1) → ∀ k : Fin 16,
    (partner sh k).val = k.val + sh.val ∨ (partner sh k).val + sh.val = k.val := by
  unfold partner; decide

theorem concat_left {α : Type} {m n : Nat} (hc : Shape.Concatenates [⟨2, ![m, 1024]⟩, ⟨2, ![n, 1024]⟩] S320x1024 0)
    (x : (⟨2, ![m, 1024]⟩ : Shape).Idx → α) (y : (⟨2, ![n, 1024]⟩ : Shape).Idx → α) (r : Fin 320) (l : Fin 1024) (h : r.val < m) :
    concatenate S320x1024 0 [⟨⟨2, ![m, 1024]⟩, x⟩, ⟨⟨2, ![n, 1024]⟩, y⟩] hc (ix2 r l) = x (ix2 ⟨r.val, h⟩ l) :=
  concatenate_pair_apply_left 0 x y hc _ rfl _ fun b => by match b with | ⟨0, _⟩ => rfl | ⟨1, _⟩ => rfl

theorem concat_right {α : Type} {m n : Nat} (hc : Shape.Concatenates [⟨2, ![m, 1024]⟩, ⟨2, ![n, 1024]⟩] S320x1024 0)
    (x : (⟨2, ![m, 1024]⟩ : Shape).Idx → α) (y : (⟨2, ![n, 1024]⟩ : Shape).Idx → α) (r : Fin 320) (l : Fin 1024) (h : m ≤ r.val)
    (hn : r.val - m < n) :
    concatenate S320x1024 0 [⟨⟨2, ![m, 1024]⟩, x⟩, ⟨⟨2, ![n, 1024]⟩, y⟩] hc (ix2 r l) = y (ix2 ⟨r.val - m, hn⟩ l) :=
  concatenate_pair_apply_right 0 x y hc _ rfl rfl _
    (fun b hb => by match b with | ⟨0, _⟩ => exact absurd rfl hb | ⟨1, _⟩ => rfl)
    (by show r.val - m + m = r.val; omega)

theorem slice_rows {α : Type} {n o : Nat} (hs : S320x1024.Slices ![o, 0] ⟨2, ![n, 1024]⟩) (v : S320x1024.Idx → α) (r : Fin n) (l : Fin 1024)
    (r' : Fin 320) (h : r'.val = o + r.val) :
    extractStridedSlice ⟨2, ![n, 1024]⟩ ![o, 0] v hs (ix2 r l) = v (ix2 r' l) :=
  extractStridedSlice_apply _ v hs _ _ fun b => by
    match b with
    | ⟨0, _⟩ => exact h
    | ⟨1, _⟩ => exact (Nat.zero_add _).symm

/-- For a shift by one bit of the codes, a row's partner is the row whose code differs in that bit. -/
theorem swap_apply {α : Type} {m n : Nat} (hs₁ : S320x1024.Slices ![n, 0] ⟨2, ![m, 1024]⟩) (hs₂ : S320x1024.Slices ![0, 0] ⟨2, ![n, 1024]⟩)
    (hc : Shape.Concatenates [⟨2, ![m, 1024]⟩, ⟨2, ![n, 1024]⟩] S320x1024 0)
    (hs₃ : S320x1024.Slices ![m, 0] ⟨2, ![n, 1024]⟩) (hs₄ : S320x1024.Slices ![0, 0] ⟨2, ![m, 1024]⟩)
    (hc' : Shape.Concatenates [⟨2, ![n, 1024]⟩, ⟨2, ![m, 1024]⟩] S320x1024 0)
    (off : IVec S320x1024 32) (hoff : IsCode off) (v : S320x1024.Idx → α) (sh : Fin 16) (hn : n = sh.val) (hm : m + n = 320)
    (hsh : sh = 8 ∨ sh = 4 ∨ sh = 2 ∨ sh = 1) (s : Fin 20) (k : Fin 16) (l : Fin 1024) :
    swap hs₁ hs₂ hc hs₃ hs₄ hc' (lowBit off (word sh)) v (ix2 (row s k) l) = v (ix2 (row s (partner sh k)) l) := by
  subst hn
  have hbit : lowBit off (word sh) (ix2 (row s k) l) = BitVec.ofBool (decide ((partner sh k).val = k.val + sh.val)) := by
    have : lowBit off (word sh) (ix2 (row s k) l) = IntOp.cmpi .eq (IntOp.andi (off (ix2 (row s k) l)) (word sh)) 0#32 := rfl
    rw [this, hoff, bit_word sh hsh]
  have hlow := partner_val sh hsh k
  have hsv : sh.val ≤ 8 := by rcases hsh with rfl | rfl | rfl | rfl <;> decide
  have hf := (partner sh k).isLt
  have hsel : ∀ a b : S320x1024.Idx → α, select (lowBit off (word sh)) a b (ix2 (row s k) l)
      = Scalar.select (lowBit off (word sh) (ix2 (row s k) l)) (a (ix2 (row s k) l)) (b (ix2 (row s k) l)) := fun _ _ => rfl
  unfold swap
  rw [hsel, hbit]
  by_cases h : (partner sh k).val = k.val + sh.val
  · rw [decide_eq_true h]
    exact (concat_left hc _ _ _ _ (by simp only [row]; omega)).trans <| slice_rows hs₁ v _ _ _ (by simp only [row]; omega)
  · have h' := hlow.resolve_left h
    rw [decide_eq_false h]
    exact (concat_right hc' _ _ _ _ (by simp only [row]; omega) (by simp only [row]; omega)).trans <| slice_rows hs₄ v _ _ _ (by simp only [row]; omega)

/-- The rows hold, in every group and column, the scores and the codes `w` of the group's scores `d`. -/
def Holds (d : Fin 1024 → Fin 20 → Fin 16 → EReal) (w : Fin 1024 → Fin 20 → Fin 16 → Fin 16) (key : FVec Ideal S320x1024 .f32)
    (code : IVec S320x1024 32) : Prop :=
  ∀ s k l, key (ix2 (row s k) l) = d l s (w l s k) ∧ code (ix2 (row s k) l) = word (w l s k)

/-- Where the partner's pair beats the row's own. -/
def takes (key pkey : FVec Ideal S320x1024 .f32) (code pcode : IVec S320x1024 32) : IVec S320x1024 1 :=
  ori (cmpf .olt pkey key) (andi (cmpf .oeq pkey key) (cmpi .slt pcode code))

theorem takes_apply (key pkey : FVec Ideal S320x1024 .f32) (code pcode : IVec S320x1024 32) (j : S320x1024.Idx) :
    takes key pkey code pcode j
      = IntOp.ori (Ideal.cmp .olt (pkey j) (key j)) (IntOp.andi (Ideal.cmp .oeq (pkey j) (key j)) (IntOp.cmpi .slt (pcode j) (code j))) := rfl

open Classical in
/-- On two scores and two codes the mask is one where the first beats the second. -/
theorem takes_beats (d : Fin 16 → EReal) (a b : Fin 16) :
    IntOp.ori (Ideal.cmp .olt (d a) (d b)) (IntOp.andi (Ideal.cmp .oeq (d a) (d b)) (IntOp.cmpi .slt (word a) (word b)))
      = BitVec.ofBool (decide (Beats d a b)) := by
  rw [slt_word]
  unfold Beats Ideal.cmp
  by_cases h₁ : d a < d b <;> by_cases h₂ : d a = d b <;> by_cases h₃ : a < b <;> simp [h₁, h₂, h₃] <;> decide

open Classical in
/-- A round of the body is a round of the search. -/
theorem holds_step {d : Fin 1024 → Fin 20 → Fin 16 → EReal} {w : Fin 1024 → Fin 20 → Fin 16 → Fin 16} {key : FVec Ideal S320x1024 .f32}
    {code : IVec S320x1024 32} (h : Holds d w key code) {sh : Fin 16} (sw : {α : Type} → (S320x1024.Idx → α) → S320x1024.Idx → α)
    (hsw : ∀ {α : Type} (v : S320x1024.Idx → α) s k l, sw v (ix2 (row s k) l) = v (ix2 (row s (partner sh k)) l)) :
    Holds d (fun l s => exchange (d l s) sh (w l s)) (select (takes key (sw key) code (sw code)) (sw key) key)
      (select (takes key (sw key) code (sw code)) (sw code) code) := by
  intro s k l
  have hm : takes key (sw key) code (sw code) (ix2 (row s k) l) = BitVec.ofBool (decide (Beats (d l s) (w l s (partner sh k)) (w l s k))) := by
    rw [takes_apply, hsw, hsw, (h s k l).1, (h s k l).2, (h s (partner sh k) l).1, (h s (partner sh k) l).2, takes_beats]
  have hsel : ∀ {α : Type} (a b : S320x1024.Idx → α), select (takes key (sw key) code (sw code)) a b (ix2 (row s k) l)
      = Scalar.select (takes key (sw key) code (sw code) (ix2 (row s k) l)) (a (ix2 (row s k) l)) (b (ix2 (row s k) l)) := fun _ _ => rfl
  rw [hsel, hsel, hm]
  unfold exchange pick
  dsimp only
  by_cases hb : Beats (d l s) (w l s (partner sh k)) (w l s k)
  · rw [if_pos hb, decide_eq_true hb]
    exact ⟨(hsw key s k l).trans (h _ _ _).1, (hsw code s k l).trans (h _ _ _).2⟩
  · rw [if_neg hb, decide_eq_false hb]
    exact h s k l

/-! ## The four rounds of the body -/

/-- The rows' codes: their numbers' low four bits. -/
theorem isCode : IsCode k0_pay18 := fun s k l => by
  have h : ∀ c : Fin 320, IntOp.andi (BitVec.ofNat 32 c.val) 15#32 = BitVec.ofNat 32 (c.val % 16) := by decide
  have e : k0_pay18 (ix2 (row s k) l) = IntOp.andi (BitVec.ofNat 32 (row s k).val) 15#32 := by
    pointwise [k0_pay18]
  rw [e, h, word]
  congr 1
  simp only [row]; omega

/-- The partners by the bit 8. -/
abbrev swap8 (off : IVec S320x1024 32) {α : Type} : (S320x1024.Idx → α) → S320x1024.Idx → α :=
  swap (m := 312) (n := 8) slices_S320x1024_o8_0_S312x1024 slices_S320x1024_o0_0_S8x1024 concatenates_S312x1024_S8x1024_S320x1024_d0
    slices_S320x1024_o312_0_S8x1024 slices_S320x1024_o0_0_S312x1024 concatenates_S8x1024_S312x1024_S320x1024_d0 (lowBit off (word 8))
/-- The partners by the bit 4. -/
abbrev swap4 (off : IVec S320x1024 32) {α : Type} : (S320x1024.Idx → α) → S320x1024.Idx → α :=
  swap (m := 316) (n := 4) slices_S320x1024_o4_0_S316x1024 slices_S320x1024_o0_0_S4x1024 concatenates_S316x1024_S4x1024_S320x1024_d0
    slices_S320x1024_o316_0_S4x1024 slices_S320x1024_o0_0_S316x1024 concatenates_S4x1024_S316x1024_S320x1024_d0 (lowBit off (word 4))
/-- The partners by the bit 2. -/
abbrev swap2 (off : IVec S320x1024 32) {α : Type} : (S320x1024.Idx → α) → S320x1024.Idx → α :=
  swap (m := 318) (n := 2) slices_S320x1024_o2_0_S318x1024 slices_S320x1024_o0_0_S2x1024 concatenates_S318x1024_S2x1024_S320x1024_d0
    slices_S320x1024_o318_0_S2x1024 slices_S320x1024_o0_0_S318x1024 concatenates_S2x1024_S318x1024_S320x1024_d0 (lowBit off (word 2))
/-- The partners by the bit 1. -/
abbrev swap1 (off : IVec S320x1024 32) {α : Type} : (S320x1024.Idx → α) → S320x1024.Idx → α :=
  swap (m := 319) (n := 1) slices_S320x1024_o1_0_S319x1024 slices_S320x1024_o0_0_S1x1024 concatenates_S319x1024_S1x1024_S320x1024_d0
    slices_S320x1024_o319_0_S1x1024 slices_S320x1024_o0_0_S319x1024 concatenates_S1x1024_S319x1024_S320x1024_d0 (lowBit off (word 1))

/-- After the body's four rounds over scores `d`, the row of code `k` holds one in the columns where `k` wins its group,
    and zero elsewhere. -/
theorem one_hot {d : Fin 1024 → Fin 20 → Fin 16 → EReal} (v58 : FVec Ideal S320x1024 .f32) (v60 : FVec Ideal S320x1 .f32)
    (hd : ∀ s k l, k0_pay17 v58 v60 (ix2 (row s k) l) = d l s k) (s : Fin 20) (k : Fin 16) (l : Fin 1024) :
    k0_pay31 k0_pay18 (k0_pay29 v58 v60) (k0_pay30 v58 v60) (ix2 (row s k) l) = if k = best (d l s) then 1 else 0 := by
  have h0 : Holds d (fun _ _ => id) (k0_pay17 v58 v60) k0_pay18 := fun s k l => ⟨hd s k l, isCode s k l⟩
  have h1 : Holds d _ (k0_pay23 v58 v60) (k0_pay24 v58 v60) :=
    holds_step h0 (swap8 k0_pay18) (swap_apply _ _ _ _ _ _ _ isCode · 8 rfl rfl (by decide))
  have h2 : Holds d _ (k0_pay29 v58 v60) (k0_pay30 v58 v60) :=
    holds_step h1 (swap4 k0_pay18) (swap_apply _ _ _ _ _ _ _ isCode · 4 rfl rfl (by decide))
  have h3 := holds_step h2 (swap2 k0_pay18) (swap_apply _ _ _ _ _ _ _ isCode · 2 rfl rfl (by decide))
  have h4 := (holds_step h3 (swap1 k0_pay18) (swap_apply _ _ _ _ _ _ _ isCode · 1 rfl rfl (by decide)) s k l).2
  have e : ∃ win : IVec S320x1024 32, win (ix2 (row s k) l) = word (rounds (d l s) k)
      ∧ k0_pay31 k0_pay18 (k0_pay29 v58 v60) (k0_pay30 v58 v60) = sitofp .f32 (extui 32 (cmpi .eq k0_pay18 win) natLt_1_32) :=
    ⟨_, h4, rfl⟩
  obtain ⟨win, hw, e⟩ := e
  have e' : k0_pay31 k0_pay18 (k0_pay29 v58 v60) (k0_pay30 v58 v60) (ix2 (row s k) l)
      = ((((IntOp.cmpi .eq (k0_pay18 (ix2 (row s k) l)) (win (ix2 (row s k) l))).setWidth 32).toInt : ℝ) : EReal) := by
    rw [e]; rfl
  rw [e', isCode, hw, eq_word, rounds_eq_best]
  by_cases h : k = best (d l s)
  · rw [if_pos h, decide_eq_true h]; simp
  · rw [if_neg h, decide_eq_false h]; simp

end Cert.Proof.Rounds

end
-- ==== Proof.Block.lean ====
/-
  What the kernel's body leaves in its three output blocks, from the contents of its twelve input blocks: where the
  input blocks hold the weights, the biases, the codebook spread over block-diagonal tables and a block of columns of
  the batch, column `l` of the outputs is the row function of Spec.lean at column `l` of the batch block.
-/
module

public import proofs.«01_k».proof.Proof.Rounds
public import proofs.«01_k».proof.Proof.Gen.KernelIdeal.Frame
public import Idealize.ShloMosaic.Lib.Pipeline.Value

@[expose] public section

set_option maxRecDepth 16384

noncomputable section

namespace Cert.Proof.Block

open Cert.KernelIdeal Cert.KernelIdeal.Gen
open Idealize.ShloMosaic Winner Spec Rounds
open scoped BigOperators

/-- Column `l` of a block of the batch. -/
def col (x0 : Vec Ideal S784x1024 .f32) (l : Fin 1024) : Fin 784 → EReal := fun k => x0 (ix2 k l)

variable {P : Params} {x0 : Vec Ideal S784x1024 .f32} {x1 : Vec Ideal S400x784 .f32} {x2 : Vec Ideal S400x1 .f32} {x3 : Vec Ideal S200x400 .f32}
  {x4 : Vec Ideal S200x1 .f32} {x5 : Vec Ideal S320x200 .f32} {x6 : Vec Ideal S320x1 .f32} {x7 : Vec Ideal S200x320 .f32}
  {x8 : Vec Ideal S400x200 .f32} {x9 : Vec Ideal S400x1 .f32} {x10 : Vec Ideal S784x400 .f32} {x11 : Vec Ideal S784x1 .f32}

/-- The input blocks hold the weights, the biases and the tables of the codebook. -/
structure Inputs (P : Params) (x1 : Vec Ideal S400x784 .f32) (x2 : Vec Ideal S400x1 .f32) (x3 : Vec Ideal S200x400 .f32)
    (x4 : Vec Ideal S200x1 .f32) (x5 : Vec Ideal S320x200 .f32) (x6 : Vec Ideal S320x1 .f32) (x7 : Vec Ideal S200x320 .f32)
    (x8 : Vec Ideal S400x200 .f32) (x9 : Vec Ideal S400x1 .f32) (x10 : Vec Ideal S784x400 .f32) (x11 : Vec Ideal S784x1 .f32) : Prop where
  w1 : ∀ i k, x1 (ix2 i k) = P.w1 i k
  b1 : ∀ i, x2 (ix2 i 0) = P.b1 i
  w2 : ∀ j i, x3 (ix2 j i) = P.w2 j i
  b2 : ∀ j, x4 (ix2 j 0) = P.b2 j
  mt : ∀ c j, x5 (ix2 c j) = same c j * (((-2 : ℝ) : EReal) * P.cb (rowCode c) (comp j))
  c2 : ∀ c, x6 (ix2 c 0) = ∑ e, P.cb (rowCode c) e * P.cb (rowCode c) e
  pt : ∀ j c, x7 (ix2 j c) = same c j * P.cb (rowCode c) (comp j)
  w3 : ∀ i j, x8 (ix2 i j) = P.w3 i j
  b3 : ∀ i, x9 (ix2 i 0) = P.b3 i
  w4 : ∀ n i, x10 (ix2 n i) = P.w4 n i
  b4 : ∀ n, x11 (ix2 n 0) = P.b4 n

/-- A load of a whole matrix reads it. -/
theorem ld_whole {a b : Nat} (x : Vec Ideal ⟨2, ![a, b]⟩ .f32) (inb : ∀ i, (![0, 0] : Fin 2 → Nat) i + (⟨2, ![a, b]⟩ : Shape).size i ≤ (⟨2, ![a, b]⟩ : Shape).size i) :
    View.ld x (Rect.unit (s := ⟨2, ![a, b]⟩) ![0, 0] (⟨2, ![a, b]⟩ : Shape).size inb) = x :=
  View.ld_unit_zero (by funext i; match i with | ⟨0, _⟩ => rfl | ⟨1, _⟩ => rfl) inb x

/-- The embedding's block. -/
theorem embed (h : Inputs P x1 x2 x3 x4 x5 x6 x7 x8 x9 x10 x11) (j : Fin 200) (l : Fin 1024) :
    k0_pay3 x1 x0 x2 x3 x4 (ix2 j l) = h2 P (col x0 l) j := by
  pointwise [k0_pay3]
  simp only [h.w1, h.b1, h.w2, h.b2]
  rfl

/-- The block of scores. -/
theorem scores (h : Inputs P x1 x2 x3 x4 x5 x6 x7 x8 x9 x10 x11) (s : Fin 20) (k : Fin 16) (l : Fin 1024) :
    k0_pay17 (k0_pay15 (k0_pay3 x1 x0 x2 x3 x4) x5) (k0_pay16 x6) (ix2 (row s k) l) = score P.cb (fun e => h2 P (col x0 l) (at_ e s)) k := by
  have hp : rowPlace (row s k) = s := Fin.ext (by simp only [rowPlace, row]; omega)
  have hc : rowCode (row s k) = k := Fin.ext (by simp only [rowCode, row]; omega)
  pointwise [k0_pay17, k0_pay15, k0_pay16]
  simp only [embed h, h.mt, h.c2]
  rw [sum_same_column (row s k) (fun e => ((-2 : ℝ) : EReal) * P.cb (rowCode (row s k)) e) (h2 P (col x0 l)), hp, hc]
  rfl

/-- The block of the nearest codes. -/
theorem quants (h : Inputs P x1 x2 x3 x4 x5 x6 x7 x8 x9 x10 x11) (j : Fin 200) (l : Fin 1024) :
    k0_pay1 (k0_pay36 x0 x1 x2 x3 x4 x5 x6 x7 x8 x9 x10 x11) (k0_pay37 x0 x1 x2 x3 x4 x5 x6 x7 x8 x9 x10 x11) (ix2 j l) = quant P (col x0 l) j := by
  have ho : ∀ c, k0_pay36 x0 x1 x2 x3 x4 x5 x6 x7 x8 x9 x10 x11 (ix2 c l) = if rowCode c = code P (col x0 l) (rowPlace c) then 1 else 0 := fun c => by
    have := one_hot (k0_pay15 (k0_pay3 x1 x0 x2 x3 x4) x5) (k0_pay16 x6) (d := fun l s => score P.cb fun e => h2 P (col x0 l) (at_ e s))
      (scores h) (rowPlace c) (rowCode c) l
    rw [row_eq] at this
    unfold k0_pay36 k0_pay35 k0_pay34 k0_pay33
    simp only [ld_whole]
    exact this
  have hq : ∀ j c, k0_pay37 x0 x1 x2 x3 x4 x5 x6 x7 x8 x9 x10 x11 (ix2 j c) = same c j * P.cb (rowCode c) (comp j) := fun j c => by
    unfold k0_pay37
    simp only [ld_whole]
    pointwise [k0_pay32]
    exact h.pt j c
  generalize k0_pay36 x0 x1 x2 x3 x4 x5 x6 x7 x8 x9 x10 x11 = o at ho
  generalize k0_pay37 x0 x1 x2 x3 x4 x5 x6 x7 x8 x9 x10 x11 = q at hq
  pointwise [k0_pay1]
  simp only [ho, hq]
  exact sum_one_hot j (fun k => P.cb k (comp j)) (code P (col x0 l))

/-- The third output block: the nearest codes. -/
theorem out14 (h : Inputs P x1 x2 x3 x4 x5 x6 x7 x8 x9 x10 x11) (j : Fin 200) (l : Fin 1024) :
    out0_14 x0 x1 x2 x3 x4 x5 x6 x7 x8 x9 x10 x11 (ix2 j l) = quant P (col x0 l) j := by
  unfold out0_14
  rw [View.canon_cons_unit_zero (by funext i; match i with | ⟨0, _⟩ => rfl | ⟨1, _⟩ => rfl)]
  exact quants h j l

/-- The first output block: the reconstruction. -/
theorem out12 (h : Inputs P x1 x2 x3 x4 x5 x6 x7 x8 x9 x10 x11) (n : Fin 784) (l : Fin 1024) :
    out0_12 x0 x1 x2 x3 x4 x5 x6 x7 x8 x9 x10 x11 (ix2 n l) = Ideal.logistic (h4 P (col x0 l) n) := by
  unfold out0_12
  rw [View.canon_cons_unit_zero (by funext i; match i with | ⟨0, _⟩ => rfl | ⟨1, _⟩ => rfl)]
  have hq := quants (x0 := x0) h
  simp only [ld_whole]
  unfold k0_pay2
  generalize k0_pay1 (k0_pay36 x0 x1 x2 x3 x4 x5 x6 x7 x8 x9 x10 x11) (k0_pay37 x0 x1 x2 x3 x4 x5 x6 x7 x8 x9 x10 x11) = q at hq
  pointwise
  simp only [hq, h.w3, h.b3, h.w4, h.b4]
  rfl

/-- A slab of rows of the embedding's block, stored at its component. -/
theorem slab (v : FVec Ideal S200x1024 .f32) (e o : Nat) (he : e < 10) (ho : o = e * 20) (hs : S200x1024.Slices ![o, 0] S20x1024)
    (hc : S20x1024.ShapeCasts S1x20x1024) (inb : ∀ i, (![e, 0, 0] : Fin 3 → Nat) i + S1x20x1024.size i ≤ S10x20x1024.size i) (x : S1x20x1024.Idx) :
    shapeCast S1x20x1024 (extractStridedSlice S20x1024 ![o, 0] v hs) hc x
      = v (ix2 (at_ ((Rect.unit (s := S10x20x1024) ![e, 0, 0] S1x20x1024.size inb).emb x 0) ((Rect.unit (s := S10x20x1024) ![e, 0, 0] S1x20x1024.size inb).emb x 1))
          ((Rect.unit (s := S10x20x1024) ![e, 0, 0] S1x20x1024.size inb).emb x 2)) := by
  subst ho
  idx_vars x
  pointwise
  have h0 : ((Rect.unit (s := S10x20x1024) ![e, 0, 0] S1x20x1024.size inb).emb (ix3 x0 x1 x2) 0).val = e + 1 * x0.val := rfl
  have h1 : ((Rect.unit (s := S10x20x1024) ![e, 0, 0] S1x20x1024.size inb).emb (ix3 x0 x1 x2) 1).val = 0 + 1 * x1.val := rfl
  have h2 : ((Rect.unit (s := S10x20x1024) ![e, 0, 0] S1x20x1024.size inb).emb (ix3 x0 x1 x2) 2).val = 0 + 1 * x2.val := rfl
  refine congrArg v (congrArg₂ ix2 (Fin.ext ?_) (Fin.ext ?_))
  · show e * 20 + x1.val = _ * 20 + _
    rw [h0, h1]; omega
  · rw [h2]; omega

/-- The second output block: the embedding, a slab for each component. -/
theorem out13 (h : Inputs P x1 x2 x3 x4 x5 x6 x7 x8 x9 x10 x11) (e : Fin 10) (s : Fin 20) (l : Fin 1024) :
    out0_13 x0 x1 x2 x3 x4 x5 x6 x7 x8 x9 x10 x11 (ix3 e s l) = h2 P (col x0 l) (at_ e s) := by
  refine (View.canon_apply_of_pieces (fun y : S10x20x1024.Idx => k0_pay3 x1 x0 x2 x3 x4 (ix2 (at_ (y 0) (y 1)) (y 2))) _ ?_ _ (cover0_13 _ _ _ _ _ _ _ _ _ _ _)).trans (embed h _ _)
  unfold k0_pay33
  simp only [ld_whole, List.forall_mem_cons]
  exact ⟨slab (k0_pay3 x1 x0 x2 x3 x4) 9 _ (by omega) rfl slices_S200x1024_o180_0_S20x1024 shapeCasts_S20x1024_S1x20x1024 inb_S10x20x1024_S1x20x1024_9_0_0, slab (k0_pay3 x1 x0 x2 x3 x4) 8 _ (by omega) rfl slices_S200x1024_o160_0_S20x1024 shapeCasts_S20x1024_S1x20x1024 inb_S10x20x1024_S1x20x1024_8_0_0, slab (k0_pay3 x1 x0 x2 x3 x4) 7 _ (by omega) rfl slices_S200x1024_o140_0_S20x1024 shapeCasts_S20x1024_S1x20x1024 inb_S10x20x1024_S1x20x1024_7_0_0, slab (k0_pay3 x1 x0 x2 x3 x4) 6 _ (by omega) rfl slices_S200x1024_o120_0_S20x1024 shapeCasts_S20x1024_S1x20x1024 inb_S10x20x1024_S1x20x1024_6_0_0, slab (k0_pay3 x1 x0 x2 x3 x4) 5 _ (by omega) rfl slices_S200x1024_o100_0_S20x1024 shapeCasts_S20x1024_S1x20x1024 inb_S10x20x1024_S1x20x1024_5_0_0, slab (k0_pay3 x1 x0 x2 x3 x4) 4 _ (by omega) rfl slices_S200x1024_o80_0_S20x1024 shapeCasts_S20x1024_S1x20x1024 inb_S10x20x1024_S1x20x1024_4_0_0, slab (k0_pay3 x1 x0 x2 x3 x4) 3 _ (by omega) rfl slices_S200x1024_o60_0_S20x1024 shapeCasts_S20x1024_S1x20x1024 inb_S10x20x1024_S1x20x1024_3_0_0, slab (k0_pay3 x1 x0 x2 x3 x4) 2 _ (by omega) rfl slices_S200x1024_o40_0_S20x1024 shapeCasts_S20x1024_S1x20x1024 inb_S10x20x1024_S1x20x1024_2_0_0, slab (k0_pay3 x1 x0 x2 x3 x4) 1 _ (by omega) rfl slices_S200x1024_o20_0_S20x1024 shapeCasts_S20x1024_S1x20x1024 inb_S10x20x1024_S1x20x1024_1_0_0, slab (k0_pay3 x1 x0 x2 x3 x4) 0 _ (by omega) rfl slices_S200x1024_o0_0_S20x1024 shapeCasts_S20x1024_S1x20x1024 inb_S10x20x1024_S1x20x1024_0_0_0,
    fun _ hp => absurd hp List.not_mem_nil⟩

end Cert.Proof.Block

end
-- ==== Proof.Consts.lean ====
/-
  The float words of the two programs' constants, as extended reals.
-/
module

public import Idealize.ShloMosaic.Lib.IdealHost

@[expose] public section

namespace Cert.Proof.Consts

open Idealize.ShloMosaic

/-- The word of two. -/
theorem two : Ideal.ofBits .f32 0x40000000#32 = ((2 : ℝ) : EReal) := by
  simp [Ideal.ofBits, Ideal.ieee, -EReal.coe_mul]; norm_num

/-- The word of minus two. -/
theorem minus_two : Ideal.ofBits .f32 0xC0000000#32 = ((-2 : ℝ) : EReal) := by
  simp [Ideal.ofBits, Ideal.ieee, -EReal.coe_mul, -EReal.coe_neg]; norm_num

/-- The word of plus infinity. -/
theorem infinity : Ideal.ofBits .f32 0x7F800000#32 = ⊤ := by
  simp [Ideal.ofBits, Ideal.ieee]

end Cert.Proof.Consts
-- ==== Proof.Prefix.lean ====
/-
  What the host operations before the kernel leave in its input arrays, each read at an index: the codebook spread over
  two block-diagonal tables, its squared lengths repeated for each place, the batch transposed, and the biases as columns.
-/
module

public import proofs.«01_k».proof.Proof.Block
public import proofs.«01_k».proof.Proof.Consts
public import Idealize.ShloMosaic.Lib.StableHlo.ReadAt
public import Idealize.ShloMosaic.Lib.Pointwise
public import Idealize.ShloMosaic.Lib.Pointwise.IndexVar

@[expose] public section

set_option maxRecDepth 16384

noncomputable section

namespace Cert.Proof.Prefix

open Cert.KernelIdeal Cert.KernelIdeal.Gen
open Idealize.ShloMosaic Idealize.ShloMosaic.TcCoe Idealize.ShloMosaic.StableHlo
open Winner Spec
open scoped BigOperators

/-- The contents of the kernel's buffers at launch. -/
abbrev Mem := Valuation τ sig (Elt Ideal)

/-- The weights, the biases and the codebook that the argument buffers hold. -/
def params (W : Mem) : Params where
  w1 i k := (W (Proc.devRef .tc main_arg1) : Vec Ideal S400x784 .f32) (ix2 i k)
  b1 i := (W (Proc.devRef .tc main_arg2) : Vec Ideal S400 .f32) (ix1 i)
  w2 j i := (W (Proc.devRef .tc main_arg3) : Vec Ideal S200x400 .f32) (ix2 j i)
  b2 j := (W (Proc.devRef .tc main_arg4) : Vec Ideal S200 .f32) (ix1 j)
  w3 i j := (W (Proc.devRef .tc main_arg5) : Vec Ideal S400x200 .f32) (ix2 i j)
  b3 i := (W (Proc.devRef .tc main_arg6) : Vec Ideal S400 .f32) (ix1 i)
  w4 n i := (W (Proc.devRef .tc main_arg7) : Vec Ideal S784x400 .f32) (ix2 n i)
  b4 n := (W (Proc.devRef .tc main_arg8) : Vec Ideal S784 .f32) (ix1 n)
  cb k e := (W (Proc.devRef .tc main_arg9) : Vec Ideal S16x10 .f32) (ix2 k e)

/-- A row of the batch. -/
def inp (W : Mem) (r : Fin 16384) : Fin 784 → EReal := fun k => (W (Proc.devRef .tc main_arg0) : Vec Ideal S16384x784 .f32) (ix2 r k)

/-- The buffers when the kernel starts. -/
def start (W : Mem) : Mem := after (List.flatten [hostOps0, hostOps0_1, hostOps0_2]) W

/-- The place of a row of the scores, as the host's division finds it, -/
theorem row_word : ∀ c : Fin 320, IntOp.divsi .host (BitVec.ofNat 32 c.val) 16#32 = BitVec.ofNat 32 (c.val / 16) := by decide +kernel
/-- and the place of a position of the embedding, as the host's remainder finds it. -/
theorem place_word : ∀ j : Fin 200, IntOp.remsi .host (BitVec.ofNat 32 j.val) 20#32 = BitVec.ofNat 32 (j.val % 20) := by decide +kernel

/-- The mask of the places: a value is kept where the two places agree. -/
theorem select_same (c : Fin 320) (j : Fin 200) (a : EReal) :
    Scalar.select (IntOp.cmpi .eq (IntOp.divsi .host (BitVec.ofNat 32 c.val) 16#32) (IntOp.remsi .host (BitVec.ofNat 32 j.val) 20#32)) a 0 = same c j * a := by
  rw [row_word, place_word, same]
  have hw : BitVec.ofNat 32 (c.val / 16) = BitVec.ofNat 32 (j.val % 20) ↔ c.val / 16 = j.val % 20 := by
    rw [← BitVec.toNat_inj, BitVec.toNat_ofNat, BitVec.toNat_ofNat, Nat.mod_eq_of_lt (by omega), Nat.mod_eq_of_lt (by omega)]
  by_cases h : c.val / 16 = j.val % 20
  · rw [if_pos h, one_mul, h]
    simp [Scalar.select, IntOp.cmpi]
  · rw [if_neg h, zero_mul]
    have hne : (BitVec.ofNat 32 (c.val / 16) == BitVec.ofNat 32 (j.val % 20)) = false := beq_eq_false_iff_ne.2 fun e => h (hw.1 e)
    simp [Scalar.select, IntOp.cmpi, hne]

/-- The same of a product whose first factor is known. -/
theorem select_scaled (c : Fin 320) (j : Fin 200) (v a b : EReal) (hv : v = b) :
    Scalar.select (IntOp.cmpi .eq (IntOp.divsi .host (BitVec.ofNat 32 c.val) 16#32) (IntOp.remsi .host (BitVec.ofNat 32 j.val) 20#32)) (v * a) 0 = same c j * (b * a) := by
  rw [select_same, hv]

variable (W : Mem)

/-- The table of the scores: minus twice the codebook, each code at the places of its row. -/
theorem mt (c : Fin 320) (j : Fin 200) :
    (start W (Proc.devRef .tc main_v17) : Vec Ideal S320x200 .f32) (ix2 c j) = same c j * (((-2 : ℝ) : EReal) * (params W).cb (rowCode c) (comp j)) := by
  unfold start
  after_reads_at
  exact select_scaled c j _ _ _ Consts.minus_two

/-- The codes' squared lengths. -/
theorem c2 (c : Fin 320) :
    (start W (Proc.devRef .tc main_v23) : Vec Ideal S320x1 .f32) (ix2 c 0) = ∑ e, (params W).cb (rowCode c) e * (params W).cb (rowCode c) e := by
  unfold start
  after_reads_at
  rfl

/-- The table of the quantised rows: the codebook, each code at the places of its row. -/
theorem pt (j : Fin 200) (c : Fin 320) :
    (start W (Proc.devRef .tc main_v31) : Vec Ideal S200x320 .f32) (ix2 j c) = same c j * (params W).cb (rowCode c) (comp j) := by
  unfold start
  after_reads_at
  exact select_same c j _

/-- The batch, transposed. -/
theorem xt (k : Fin 784) (r : Fin 16384) : (start W (Proc.devRef .tc main_v32) : Vec Ideal S784x16384 .f32) (ix2 k r) = inp W r k := by
  unfold start
  after_reads_at
  rfl

/-- The four biases as columns, -/
theorem b1 (i : Fin 400) : (start W (Proc.devRef .tc main_v33) : Vec Ideal S400x1 .f32) (ix2 i 0) = (params W).b1 i := by
  unfold start; after_reads_at; rfl
theorem b2 (j : Fin 200) : (start W (Proc.devRef .tc main_v34) : Vec Ideal S200x1 .f32) (ix2 j 0) = (params W).b2 j := by
  unfold start; after_reads_at; rfl
theorem b3 (i : Fin 400) : (start W (Proc.devRef .tc main_v35) : Vec Ideal S400x1 .f32) (ix2 i 0) = (params W).b3 i := by
  unfold start; after_reads_at; rfl
theorem b4 (n : Fin 784) : (start W (Proc.devRef .tc main_v36) : Vec Ideal S784x1 .f32) (ix2 n 0) = (params W).b4 n := by
  unfold start; after_reads_at; rfl
/-- and the four weights as they were. -/
theorem w1 (i : Fin 400) (k : Fin 784) : (start W (Proc.devRef .tc main_arg1) : Vec Ideal S400x784 .f32) (ix2 i k) = (params W).w1 i k := by
  unfold start; after_reads_at; rfl
theorem w2 (j : Fin 200) (i : Fin 400) : (start W (Proc.devRef .tc main_arg3) : Vec Ideal S200x400 .f32) (ix2 j i) = (params W).w2 j i := by
  unfold start; after_reads_at; rfl
theorem w3 (i : Fin 400) (j : Fin 200) : (start W (Proc.devRef .tc main_arg5) : Vec Ideal S400x200 .f32) (ix2 i j) = (params W).w3 i j := by
  unfold start; after_reads_at; rfl
theorem w4 (n : Fin 784) (i : Fin 400) : (start W (Proc.devRef .tc main_arg7) : Vec Ideal S784x400 .f32) (ix2 n i) = (params W).w4 n i := by
  unfold start; after_reads_at; rfl

end Cert.Proof.Prefix

end
-- ==== Proof.Arrays.lean ====
/-
  The kernel's three output arrays after the run, each read at an index: grid point `t` writes columns `t * 1024` to
  `t * 1024 + 1023`, from the same columns of the transposed batch, so column `r` holds the row functions of Spec.lean at row
  `r` of the batch.
-/
module

public import proofs.«01_k».proof.Proof.Prefix
public import Idealize.ShloMosaic.Lib.Pipeline.ValueKit.Geometry

@[expose] public section

set_option maxRecDepth 16384

noncomputable section

namespace Cert.Proof.Arrays

open Cert.KernelIdeal Cert.KernelIdeal.Gen
open Idealize.ShloMosaic Idealize.ShloMosaic.TcCoe Idealize.ShloMosaic.StableHlo
open Winner Spec Prefix
open scoped BigOperators

variable (m : (ℓ : Loc nD τ sig) → Buf (Elt Ideal) ℓ) (c : Dev nD)

/-- The launch contents of the device's buffers. -/
def launch : Mem := fun b => m (c, b)

/-- The block that each grid point takes of each array: the same for all but the batch and the three results. -/
theorem index_0 : ∀ t : Fin cfg0.N, win0_0.index t = ![0, t.val] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, t.val] := (by decide +kernel : ∀ t : Fin grid0.N, _)
theorem index_13 : ∀ t : Fin cfg0.N, win0_13.index t = ![0, 0, t.val] := (by decide +kernel : ∀ t : Fin grid0.N, _)
theorem index_14 : ∀ t : Fin cfg0.N, win0_14.index t = ![0, t.val] := (by decide +kernel : ∀ t : Fin grid0.N, _)

/-- The row of the batch behind column `l` of block `t`. -/
def at_row (t : Fin cfg0.N) (l : Fin 1024) : Fin 16384 := ⟨t.val * 1024 + l.val, by have : t.val < 16 := t.isLt; omega⟩

/-- Column `l` of the batch block of point `t`. -/
theorem col_eq (t : Fin cfg0.N) (l : Fin 1024) : Block.col (iblk m c 0 t) l = inp (launch m c) (at_row t l) := by
  funext k
  refine Eq.trans ?_ (xt (launch m c) k (at_row t l))
  show iblk m c 0 t (ix2 k l) = V m c main_v32 (ix2 k (at_row t l))
  blk_ext [iblk, index_0 t, at_row]

section
variable (t : Fin cfg0.N)

/-- The other blocks are their whole arrays, -/
theorem whole_1 (i : Fin 400) (j : Fin 784) : iblk m c 1 t (ix2 i j) = V m c main_arg1 (ix2 i j) := by blk_ext [iblk, index_1 t]
theorem whole_2 (i : Fin 400) (j : Fin 1) : iblk m c 2 t (ix2 i j) = V m c main_v33 (ix2 i j) := by blk_ext [iblk, index_2 t]
theorem whole_3 (i : Fin 200) (j : Fin 400) : iblk m c 3 t (ix2 i j) = V m c main_arg3 (ix2 i j) := by blk_ext [iblk, index_3 t]
theorem whole_4 (i : Fin 200) (j : Fin 1) : iblk m c 4 t (ix2 i j) = V m c main_v34 (ix2 i j) := by blk_ext [iblk, index_4 t]
theorem whole_5 (i : Fin 320) (j : Fin 200) : iblk m c 5 t (ix2 i j) = V m c main_v17 (ix2 i j) := by blk_ext [iblk, index_5 t]
theorem whole_6 (i : Fin 320) (j : Fin 1) : iblk m c 6 t (ix2 i j) = V m c main_v23 (ix2 i j) := by blk_ext [iblk, index_6 t]
theorem whole_7 (i : Fin 200) (j : Fin 320) : iblk m c 7 t (ix2 i j) = V m c main_v31 (ix2 i j) := by blk_ext [iblk, index_7 t]
theorem whole_8 (i : Fin 400) (j : Fin 200) : iblk m c 8 t (ix2 i j) = V m c main_arg5 (ix2 i j) := by blk_ext [iblk, index_8 t]
theorem whole_9 (i : Fin 400) (j : Fin 1) : iblk m c 9 t (ix2 i j) = V m c main_v35 (ix2 i j) := by blk_ext [iblk, index_9 t]
theorem whole_10 (i : Fin 784) (j : Fin 400) : iblk m c 10 t (ix2 i j) = V m c main_arg7 (ix2 i j) := by blk_ext [iblk, index_10 t]
theorem whole_11 (i : Fin 784) (j : Fin 1) : iblk m c 11 t (ix2 i j) = V m c main_v36 (ix2 i j) := by blk_ext [iblk, index_11 t]

/-- and hold the weights, the biases and the tables of the codebook. -/
theorem inputs : Block.Inputs (params (launch m c)) (iblk m c 1 t) (iblk m c 2 t) (iblk m c 3 t) (iblk m c 4 t) (iblk m c 5 t)
    (iblk m c 6 t) (iblk m c 7 t) (iblk m c 8 t) (iblk m c 9 t) (iblk m c 10 t) (iblk m c 11 t) :=
  ⟨fun i j => (whole_1 m c t i j).trans (w1 (launch m c) i j),
    fun i => (whole_2 m c t i 0).trans (b1 (launch m c) i),
    fun i j => (whole_3 m c t i j).trans (w2 (launch m c) i j),
    fun i => (whole_4 m c t i 0).trans (b2 (launch m c) i),
    fun i j => (whole_5 m c t i j).trans (mt (launch m c) i j),
    fun i => (whole_6 m c t i 0).trans (c2 (launch m c) i),
    fun i j => (whole_7 m c t i j).trans (pt (launch m c) i j),
    fun i j => (whole_8 m c t i j).trans (w3 (launch m c) i j),
    fun i => (whole_9 m c t i 0).trans (b3 (launch m c) i),
    fun i j => (whole_10 m c t i j).trans (w4 (launch m c) i j),
    fun i => (whole_11 m c t i 0).trans (b4 (launch m c) i)⟩

end

/-- The three arrays' final contents. -/
def recont : Vec Ideal S784x16384 .f32 := fun i => Ideal.logistic (h4 (params (launch m c)) (inp (launch m c) (i 1)) (i 0))
def zet : Vec Ideal S10x20x16384 .f32 := fun i => h2 (params (launch m c)) (inp (launch m c) (i 2)) (at_ (i 0) (i 1))
def zqt : Vec Ideal S200x16384 .f32 := fun i => quant (params (launch m c)) (inp (launch m c) (i 1)) (i 0)

/-- Where point `t` places the entries of its three result blocks. -/
theorem emb_12 (t : Fin cfg0.N) (n : Fin 784) (l : Fin 1024) :
    (((cfg0.win 12).blk t).view.emb (ix2 n l) : S784x16384.Idx) = ix2 n (at_row t l) := by blk_ext [index_12 t, at_row]
theorem emb_13 (t : Fin cfg0.N) (e : Fin 10) (s : Fin 20) (l : Fin 1024) :
    (((cfg0.win 13).blk t).view.emb (ix3 e s l) : S10x20x16384.Idx) = ix3 e s (at_row t l) := by blk_ext [index_13 t, at_row]
theorem emb_14 (t : Fin cfg0.N) (j : Fin 200) (l : Fin 1024) :
    (((cfg0.win 14).blk t).view.emb (ix2 j l) : S200x16384.Idx) = ix2 j (at_row t l) := by blk_ext [index_14 t, at_row]

/-- What point `t` leaves in its three result blocks. -/
theorem left_12 (t : Fin cfg0.N) (n : Fin 784) (l : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 n l)
      = recont m c (ix2 n (at_row t l)) := by
  refine (Block.out12 (inputs m c t) n l).trans ?_
  rw [col_eq]
  rfl
theorem left_13 (t : Fin cfg0.N) (e : Fin 10) (s : Fin 20) (l : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 e s l)
      = zet m c (ix3 e s (at_row t l)) := by
  refine (Block.out13 (inputs m c t) e s l).trans ?_
  rw [col_eq]
  rfl
theorem left_14 (t : Fin cfg0.N) (j : Fin 200) (l : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 j l)
      = zqt m c (ix2 j (at_row t l)) := by
  refine (Block.out14 (inputs m c t) j l).trans ?_
  rw [col_eq]
  rfl

/-- The array of reconstructions, -/
theorem final_12 : (dats m 0 c).arrAt 12 cfg0.N = recont m c := by
  refine (dats m 0 c).arrAt_eq_of_covers 12 _ (by decide +kernel) fun t _ y => ?_
  blk_simp
  rw [after0_12]
  idx_vars y
  exact (left_12 m c t y0 y1).trans (congrArg (recont m c) (emb_12 t y0 y1).symm)

/-- that of embeddings, -/
theorem final_13 : (dats m 0 c).arrAt 13 cfg0.N = zet m c := by
  refine (dats m 0 c).arrAt_eq_of_covers 13 _ (by decide +kernel) fun t _ y => ?_
  blk_simp
  rw [after0_13]
  idx_vars y
  exact (left_13 m c t y0 y1 y2).trans (congrArg (zet m c) (emb_13 t y0 y1 y2).symm)

/-- and that of quantised rows. -/
theorem final_14 : (dats m 0 c).arrAt 14 cfg0.N = zqt m c := by
  refine (dats m 0 c).arrAt_eq_of_covers 14 _ (by decide +kernel) fun t _ y => ?_
  blk_simp
  rw [after0_14]
  idx_vars y
  exact (left_14 m c t y0 y1).trans (congrArg (zqt m c) (emb_14 t y0 y1).symm)

end Cert.Proof.Arrays

end
-- ==== Proof.Run.lean ====
/-
  The kernel's run: its three results, the output arrays transposed, each at an index, and its arguments as they were.
-/
module

public import proofs.«01_k».proof.Proof.Arrays

@[expose] public section

set_option maxRecDepth 16384

noncomputable section

namespace Cert.Proof.Run

open Cert.KernelIdeal Cert.KernelIdeal.Gen
open Idealize.ShloMosaic Idealize.ShloMosaic.TcCoe Idealize.ShloMosaic.StableHlo Idealize.SL.Sem
open Winner Spec Prefix Arrays

variable (m : (ℓ : Loc nD τ sig) → Buf (Elt Ideal) ℓ) (ρ : Dev nD → PrngReg) (c : Dev nD)

/-- The three results. -/
def recon : Vec Ideal S16384x784 .f32 := fun i => Ideal.logistic (h4 (params (launch m c)) (inp (launch m c) (i 0)) (i 1))
def ze : Vec Ideal S16384x10x20 .f32 := fun i => h2 (params (launch m c)) (inp (launch m c) (i 0)) (at_ (i 1) (i 2))
def zq : Vec Ideal S16384x200 .f32 := fun i => quant (params (launch m c)) (inp (launch m c) (i 0)) (i 1)

/-- The device's buffers after the region. -/
def after_region : Mem := Pipeline.withArrays (cfgs 0).spec c (V0 m c) fun w => (dats m 0 c).arrAt w (cfgs 0).N

theorem after_region_arr (w : Fin 15) :
    after_region m c (Proc.devRef .tc (Pipeline.arrRef spec0 w)) = (dats m 0 c).arrAt w cfg0.N :=
  Pipeline.withArrays_arr spec0 launch0.win.arr_inj c (V0 m c) _ w

/-- The last three operations transpose the output arrays. -/
theorem tail_38 : Pipeline.afterTail₀ cfgs (dats m) 0 (V0 m) [hostOps1] c main_v38 = recon m c := by
  have h : (after_region m c (Proc.devRef .tc main_v37_0) : Vec Ideal S784x16384 .f32) = recont m c := (after_region_arr m c 12).trans (final_12 m c)
  show (after (List.flatten [hostOps1]) (after_region m c) (Proc.devRef .tc main_v38) : Vec Ideal S16384x784 .f32) = _
  funext i
  idx_vars i
  after_reads_at
  rw [h]
  rfl
theorem tail_39 : Pipeline.afterTail₀ cfgs (dats m) 0 (V0 m) [hostOps1] c main_v39 = ze m c := by
  have h : (after_region m c (Proc.devRef .tc main_v37_1) : Vec Ideal S10x20x16384 .f32) = zet m c := (after_region_arr m c 13).trans (final_13 m c)
  show (after (List.flatten [hostOps1]) (after_region m c) (Proc.devRef .tc main_v39) : Vec Ideal S16384x10x20 .f32) = _
  funext i
  idx_vars i
  after_reads_at
  rw [h]
  rfl
theorem tail_40 : Pipeline.afterTail₀ cfgs (dats m) 0 (V0 m) [hostOps1] c main_v40 = zq m c := by
  have h : (after_region m c (Proc.devRef .tc main_v37_2) : Vec Ideal S200x16384 .f32) = zqt m c := (after_region_arr m c 14).trans (final_14 m c)
  show (after (List.flatten [hostOps1]) (after_region m c) (Proc.devRef .tc main_v40) : Vec Ideal S16384x200 .f32) = _
  funext i
  idx_vars i
  after_reads_at
  rw [h]
  rfl

/-- The run: the three results and the arguments. -/
theorem run : θ_run defs (onTc (τ := τ) (main (F := Ideal))) ⟨m, fun _ => 0, ρ⟩ (fun r => ∀ c : Dev nD,
      r.2.mem ((c.tc : Thread nD τ).loc main_v38) = recon m c
      ∧ r.2.mem ((c.tc : Thread nD τ).loc main_v39) = ze m c
      ∧ r.2.mem ((c.tc : Thread nD τ).loc main_v40) = zq m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h.1.rest_eq c main_v38 (by decide)).trans (tail_38 m c), (h.1.rest_eq c main_v39 (by decide)).trans (tail_39 m c),
      (h.1.rest_eq c main_v40 (by decide)).trans (tail_40 m c), h.2 c⟩)
    (θ_run_and (run_main m ρ) (unchanged m ρ))

end Cert.Proof.Run

end
-- ==== Proof.RefRun.lean ====
/-
  The run of the reference program (../ReferenceIdeal.lean, `Cert.ReferenceIdeal`, eighty-seven host operations and no
  kernel). @main is a straight line of operations, written here as six stretches (the embedding, the table of distances,
  the index of the nearest code, the codes taken at those indices, the quantised rows, the reconstruction), so its run
  is the library's `StableHlo.run_seq`: every buffer ends at the operations' results folded over the launch contents.
-/
module

public import proofs.«01_k».proof.Proof.Gen.ReferenceIdeal
public import Idealize.ShloMosaic.Lib.StableHlo.Run

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- The operations of the embedding and its three-axis form. -/
abbrev opsEmbed : List (HloOp τ sig (Elt F)) :=
  [ unary main_arg1 main_v0 ((transpose S784x400 [1, 0] · transposes_S400x784_S784x400_1_0) : (⟨S400x784, .f32⟩ : BufTy).Contents (Elt F) → (⟨S784x400, .f32⟩ : BufTy).Contents (Elt F)),
    binary main_arg0 main_v0 main_v1 ((fun l r => Host.dotGeneral dot_S16384x784_S784x400_S16384x400_1_0_0_1_n_n none l r) : (⟨S16384x784, .f32⟩ : BufTy).Contents (Elt F) → (⟨S784x400, .f32⟩ : BufTy).Contents (Elt F) → (⟨S16384x400, .f32⟩ : BufTy).Contents (Elt F)),
    unary main_arg2 main_v2 (broadcastInDim S1x400 ![1] bcast_S400_S1x400_1 : (⟨S400, .f32⟩ : BufTy).Contents (Elt F) → (⟨S1x400, .f32⟩ : BufTy).Contents (Elt F)),
    unary main_v2 main_v3 (broadcastInDim S16384x400 ![0, 1] bcast_S1x400_S16384x400_0_1 : (⟨S1x400, .f32⟩ : BufTy).Contents (Elt F) → (⟨S16384x400, .f32⟩ : BufTy).Contents (Elt F)),
    binary main_v1 main_v3 main_v4 (addf : (⟨S16384x400, .f32⟩ : BufTy).Contents (Elt F) → (⟨S16384x400, .f32⟩ : BufTy).Contents (Elt F) → (⟨S16384x400, .f32⟩ : BufTy).Contents (Elt F)),
    TRef.nullary (.of main_call0_cst : TRef sig ⟨S_, .f32⟩) (constant S_ .f32 0x00000000#32),
    TRef.unary (.of main_call0_cst : TRef sig ⟨S_, .f32⟩) (.of main_call0_v0 : TRef sig ⟨S16384x400, .f32⟩) (broadcastInDim S16384x400 ![] bcast_S_S16384x400),
    TRef.binary (.of main_v4) (.of main_call0_v0 : TRef sig ⟨S16384x400, .f32⟩) (.of main_v5 : TRef sig ⟨S16384x400, .f32⟩) maximumf,
    unary main_arg3 main_v6 ((transpose S400x200 [1, 0] · transposes_S200x400_S400x200_1_0) : (⟨S200x400, .f32⟩ : BufTy).Contents (Elt F) → (⟨S400x200, .f32⟩ : BufTy).Contents (Elt F)),
    binary main_v5 main_v6 main_v7 ((fun l r => Host.dotGeneral dot_S16384x400_S400x200_S16384x200_1_0_0_1_n_n none l r) : (⟨S16384x400, .f32⟩ : BufTy).Contents (Elt F) → (⟨S400x200, .f32⟩ : BufTy).Contents (Elt F) → (⟨S16384x200, .f32⟩ : BufTy).Contents (Elt F)),
    unary main_arg4 main_v8 (broadcastInDim S1x200 ![1] bcast_S200_S1x200_1 : (⟨S200, .f32⟩ : BufTy).Contents (Elt F) → (⟨S1x200, .f32⟩ : BufTy).Contents (Elt F)),
    unary main_v8 main_v9 (broadcastInDim S16384x200 ![0, 1] bcast_S1x200_S16384x200_0_1 : (⟨S1x200, .f32⟩ : BufTy).Contents (Elt F) → (⟨S16384x200, .f32⟩ : BufTy).Contents (Elt F)),
    binary main_v7 main_v9 main_v10 (addf : (⟨S16384x200, .f32⟩ : BufTy).Contents (Elt F) → (⟨S16384x200, .f32⟩ : BufTy).Contents (Elt F) → (⟨S16384x200, .f32⟩ : BufTy).Contents (Elt F)),
    reshape main_v10 main_v11 (rfl : (.f32 : EltTy) = .f32) shapeCasts_S16384x200_S16384x10x20 ]

/-- The operations of the table of distances. -/
abbrev opsScore : List (HloOp τ sig (Elt F)) :=
  [ unary main_v11 main_v12 ((transpose S16384x20x10 [0, 2, 1] · transposes_S16384x10x20_S16384x20x10_0_2_1) : (⟨S16384x10x20, .f32⟩ : BufTy).Contents (Elt F) → (⟨S16384x20x10, .f32⟩ : BufTy).Contents (Elt F)),
    reshape main_v12 main_v13 (rfl : (.f32 : EltTy) = .f32) shapeCasts_S16384x20x10_S327680x10,
    binary main_v13 main_v13 main_v14 (mulf : (⟨S327680x10, .f32⟩ : BufTy).Contents (Elt F) → (⟨S327680x10, .f32⟩ : BufTy).Contents (Elt F) → (⟨S327680x10, .f32⟩ : BufTy).Contents (Elt F)),
    nullary main_cst (constant S_ .f32 0x00000000#32),
    binary main_v14 main_cst main_v15 ((fun x v => Host.reduceAdd x v reducesTo_S327680x10_S327680_d1 h_S_) : (⟨S327680x10, .f32⟩ : BufTy).Contents (Elt F) → (⟨S_, .f32⟩ : BufTy).Contents (Elt F) → (⟨S327680, .f32⟩ : BufTy).Contents (Elt F)),
    unary main_v15 main_v16 (broadcastInDim S327680x1 ![0] bcast_S327680_S327680x1_0 : (⟨S327680, .f32⟩ : BufTy).Contents (Elt F) → (⟨S327680x1, .f32⟩ : BufTy).Contents (Elt F)),
    nullary main_cst_0 (constant S_ .f32 0x40000000#32),
    unary main_cst_0 main_v17 (broadcastInDim S327680x10 ![] bcast_S_S327680x10 : (⟨S_, .f32⟩ : BufTy).Contents (Elt F) → (⟨S327680x10, .f32⟩ : BufTy).Contents (Elt F)),
    binary main_v17 main_v13 main_v18 (mulf : (⟨S327680x10, .f32⟩ : BufTy).Contents (Elt F) → (⟨S327680x10, .f32⟩ : BufTy).Contents (Elt F) → (⟨S327680x10, .f32⟩ : BufTy).Contents (Elt F)),
    unary main_arg9 main_v19 ((transpose S10x16 [1, 0] · transposes_S16x10_S10x16_1_0) : (⟨S16x10, .f32⟩ : BufTy).Contents (Elt F) → (⟨S10x16, .f32⟩ : BufTy).Contents (Elt F)),
    binary main_v18 main_v19 main_v20 ((fun l r => Host.dotGeneral dot_S327680x10_S10x16_S327680x16_1_0_0_1_n_n none l r) : (⟨S327680x10, .f32⟩ : BufTy).Contents (Elt F) → (⟨S10x16, .f32⟩ : BufTy).Contents (Elt F) → (⟨S327680x16, .f32⟩ : BufTy).Contents (Elt F)),
    unary main_v16 main_v21 (broadcastInDim S327680x16 ![0, 1] bcast_S327680x1_S327680x16_0_1 : (⟨S327680x1, .f32⟩ : BufTy).Contents (Elt F) → (⟨S327680x16, .f32⟩ : BufTy).Contents (Elt F)),
    binary main_v21 main_v20 main_v22 (subf : (⟨S327680x16, .f32⟩ : BufTy).Contents (Elt F) → (⟨S327680x16, .f32⟩ : BufTy).Contents (Elt F) → (⟨S327680x16, .f32⟩ : BufTy).Contents (Elt F)),
    binary main_arg9 main_arg9 main_v23 (mulf : (⟨S16x10, .f32⟩ : BufTy).Contents (Elt F) → (⟨S16x10, .f32⟩ : BufTy).Contents (Elt F) → (⟨S16x10, .f32⟩ : BufTy).Contents (Elt F)),
    nullary main_cst_1 (constant S_ .f32 0x00000000#32),
    binary main_v23 main_cst_1 main_v24 ((fun x v => Host.reduceAdd x v reducesTo_S16x10_S16_d1 h_S_) : (⟨S16x10, .f32⟩ : BufTy).Contents (Elt F) → (⟨S_, .f32⟩ : BufTy).Contents (Elt F) → (⟨S16, .f32⟩ : BufTy).Contents (Elt F)),
    unary main_v24 main_v25 (broadcastInDim S1x16 ![1] bcast_S16_S1x16_1 : (⟨S16, .f32⟩ : BufTy).Contents (Elt F) → (⟨S1x16, .f32⟩ : BufTy).Contents (Elt F)),
    unary main_v25 main_v26 (broadcastInDim S327680x16 ![0, 1] bcast_S1x16_S327680x16_0_1 : (⟨S1x16, .f32⟩ : BufTy).Contents (Elt F) → (⟨S327680x16, .f32⟩ : BufTy).Contents (Elt F)),
    binary main_v22 main_v26 main_v27 (addf : (⟨S327680x16, .f32⟩ : BufTy).Contents (Elt F) → (⟨S327680x16, .f32⟩ : BufTy).Contents (Elt F) → (⟨S327680x16, .f32⟩ : BufTy).Contents (Elt F)) ]

/-- The operations of the index of the nearest code. -/
abbrev opsNearest : List (HloOp τ sig (Elt F)) :=
  [ TRef.nullary (.of main_call1_v0 : TRef sig ⟨S327680x16, .i32⟩) (iotaInDim S327680x16 32 1),
    TRef.nullary (.of main_call1_cst : TRef sig ⟨S_, .f32⟩) (constant S_ .f32 0x7F800000#32),
    TRef.nullary (.of main_call1_c : TRef sig ⟨S_, .i32⟩) (constantI S_ 32 0#32),
    TRef.quaternary (.of main_v27) (.of main_call1_v0 : TRef sig ⟨S327680x16, .i32⟩) (.of main_call1_cst : TRef sig ⟨S_, .f32⟩) (.of main_call1_c : TRef sig ⟨S_, .i32⟩) (.of main_call1_v1_0 : TRef sig ⟨S327680, .f32⟩) (fun x y u v j => (Host.argReduce reducer_argmin_f32_i32 x y u v reducesTo_S327680x16_S327680_d1 h_S_ j).1),
    TRef.quaternary (.of main_v27) (.of main_call1_v0 : TRef sig ⟨S327680x16, .i32⟩) (.of main_call1_cst : TRef sig ⟨S_, .f32⟩) (.of main_call1_c : TRef sig ⟨S_, .i32⟩) (.of main_v28 : TRef sig ⟨S327680, .i32⟩) (fun x y u v j => (Host.argReduce reducer_argmin_f32_i32 x y u v reducesTo_S327680x16_S327680_d1 h_S_ j).2) ]

/-- The operations of the codes taken at those indices. -/
abbrev opsTake : List (HloOp τ sig (Elt F)) :=
  [ TRef.nullary (.of main_call2_c : TRef sig ⟨S_, .i32⟩) (constantI S_ 32 0#32),
    TRef.unary (.of main_call2_c : TRef sig ⟨S_, .i32⟩) (.of main_call2_v0 : TRef sig ⟨S327680, .i32⟩) (broadcastInDim S327680 ![] bcast_S_S327680),
    TRef.binary (.of main_v28) (.of main_call2_v0 : TRef sig ⟨S327680, .i32⟩) (.of main_call2_v1 : TRef sig ⟨S327680, .i1⟩) (cmpi .slt),
    TRef.nullary (.of main_call2_c_0 : TRef sig ⟨S_, .i32⟩) (constantI S_ 32 16#32),
    TRef.unary (.of main_call2_c_0 : TRef sig ⟨S_, .i32⟩) (.of main_call2_v2 : TRef sig ⟨S327680, .i32⟩) (broadcastInDim S327680 ![] bcast_S_S327680),
    TRef.binary (.of main_v28) (.of main_call2_v2 : TRef sig ⟨S327680, .i32⟩) (.of main_call2_v3 : TRef sig ⟨S327680, .i32⟩) addi,
    TRef.ternary (.of main_call2_v1 : TRef sig ⟨S327680, .i1⟩) (.of main_call2_v3 : TRef sig ⟨S327680, .i32⟩) (.of main_v28) (.of main_call2_v4 : TRef sig ⟨S327680, .i32⟩) select,
    TRef.unary (.of main_call2_v4 : TRef sig ⟨S327680, .i32⟩) (.of main_call2_v5 : TRef sig ⟨S327680x1, .i32⟩) (broadcastInDim S327680x1 ![0] bcast_S327680_S327680x1_0),
    TRef.nullary (.of main_call2_c_1 : TRef sig ⟨S1, .i32⟩) (constantI S1 32 15#32),
    TRef.nullary (.of main_call2_c_2 : TRef sig ⟨S_, .i32⟩) (constantI S_ 32 0#32),
    TRef.unary (.of main_call2_c_2 : TRef sig ⟨S_, .i32⟩) (.of main_call2_v6 : TRef sig ⟨S327680x1, .i32⟩) (broadcastInDim S327680x1 ![] bcast_S_S327680x1),
    TRef.binary (.of main_call2_v5 : TRef sig ⟨S327680x1, .i32⟩) (.of main_call2_v6 : TRef sig ⟨S327680x1, .i32⟩) (.of main_call2_v7 : TRef sig ⟨S327680x1, .i1⟩) (cmpi .sge),
    TRef.unary (.of main_call2_c_1 : TRef sig ⟨S1, .i32⟩) (.of main_call2_v8 : TRef sig ⟨S1x1, .i32⟩) (broadcastInDim S1x1 ![1] bcast_S1_S1x1_1),
    TRef.unary (.of main_call2_v8 : TRef sig ⟨S1x1, .i32⟩) (.of main_call2_v9 : TRef sig ⟨S327680x1, .i32⟩) (broadcastInDim S327680x1 ![0, 1] bcast_S1x1_S327680x1_0_1),
    TRef.binary (.of main_call2_v5 : TRef sig ⟨S327680x1, .i32⟩) (.of main_call2_v9 : TRef sig ⟨S327680x1, .i32⟩) (.of main_call2_v10 : TRef sig ⟨S327680x1, .i1⟩) (cmpi .sle),
    TRef.binary (.of main_call2_v7 : TRef sig ⟨S327680x1, .i1⟩) (.of main_call2_v10 : TRef sig ⟨S327680x1, .i1⟩) (.of main_call2_v11 : TRef sig ⟨S327680x1, .i1⟩) andi,
    TRef.nullary (.of main_call2_c_3 : TRef sig ⟨S_, .i1⟩) (constantI S_ 1 1#1),
    TRef.binary (.of main_call2_v11 : TRef sig ⟨S327680x1, .i1⟩) (.of main_call2_c_3 : TRef sig ⟨S_, .i1⟩) (.of main_call2_v12 : TRef sig ⟨S327680, .i1⟩) (fun x v => Host.reduce IntOp.andi x v reducesTo_S327680x1_S327680_d1 h_S_),
    TRef.binary (.of main_arg9) (.of main_call2_v5 : TRef sig ⟨S327680x1, .i32⟩) (.of main_call2_v13 : TRef sig ⟨S327680x10, .f32⟩) (fun x i => Host.gather gather_S16x10_S327680x1_S327680x10_1_0_n_n_0_1_110 x i),
    TRef.unary (.of main_call2_v12 : TRef sig ⟨S327680, .i1⟩) (.of main_call2_v14 : TRef sig ⟨S327680x10, .i1⟩) (broadcastInDim S327680x10 ![0] bcast_S327680_S327680x10_0),
    TRef.nullary (.of main_call2_cst : TRef sig ⟨S_, .f32⟩) (constant S_ .f32 0x7FC00000#32),
    TRef.unary (.of main_call2_cst : TRef sig ⟨S_, .f32⟩) (.of main_call2_v15 : TRef sig ⟨S327680x10, .f32⟩) (broadcastInDim S327680x10 ![] bcast_S_S327680x10),
    TRef.ternary (.of main_call2_v14 : TRef sig ⟨S327680x10, .i1⟩) (.of main_call2_v13 : TRef sig ⟨S327680x10, .f32⟩) (.of main_call2_v15 : TRef sig ⟨S327680x10, .f32⟩) (.of main_v29 : TRef sig ⟨S327680x10, .f32⟩) select ]

/-- The operations of the codes as rows, with the embedding added and taken off again. -/
abbrev opsStraight : List (HloOp τ sig (Elt F)) :=
  [ reshape main_v29 main_v30 (rfl : (.f32 : EltTy) = .f32) shapeCasts_S327680x10_S16384x20x10,
    unary main_v30 main_v31 ((transpose S16384x10x20 [0, 2, 1] · transposes_S16384x20x10_S16384x10x20_0_2_1) : (⟨S16384x20x10, .f32⟩ : BufTy).Contents (Elt F) → (⟨S16384x10x20, .f32⟩ : BufTy).Contents (Elt F)),
    reshape main_v31 main_v32 (rfl : (.f32 : EltTy) = .f32) shapeCasts_S16384x10x20_S16384x200,
    binary main_v32 main_v10 main_v33 (addf : (⟨S16384x200, .f32⟩ : BufTy).Contents (Elt F) → (⟨S16384x200, .f32⟩ : BufTy).Contents (Elt F) → (⟨S16384x200, .f32⟩ : BufTy).Contents (Elt F)),
    binary main_v33 main_v10 main_v34 (subf : (⟨S16384x200, .f32⟩ : BufTy).Contents (Elt F) → (⟨S16384x200, .f32⟩ : BufTy).Contents (Elt F) → (⟨S16384x200, .f32⟩ : BufTy).Contents (Elt F)) ]

/-- The operations of the reconstruction. -/
abbrev opsRecon : List (HloOp τ sig (Elt F)) :=
  [ unary main_arg5 main_v35 ((transpose S200x400 [1, 0] · transposes_S400x200_S200x400_1_0) : (⟨S400x200, .f32⟩ : BufTy).Contents (Elt F) → (⟨S200x400, .f32⟩ : BufTy).Contents (Elt F)),
    binary main_v34 main_v35 main_v36 ((fun l r => Host.dotGeneral dot_S16384x200_S200x400_S16384x400_1_0_0_1_n_n none l r) : (⟨S16384x200, .f32⟩ : BufTy).Contents (Elt F) → (⟨S200x400, .f32⟩ : BufTy).Contents (Elt F) → (⟨S16384x400, .f32⟩ : BufTy).Contents (Elt F)),
    unary main_arg6 main_v37 (broadcastInDim S1x400 ![1] bcast_S400_S1x400_1 : (⟨S400, .f32⟩ : BufTy).Contents (Elt F) → (⟨S1x400, .f32⟩ : BufTy).Contents (Elt F)),
    unary main_v37 main_v38 (broadcastInDim S16384x400 ![0, 1] bcast_S1x400_S16384x400_0_1 : (⟨S1x400, .f32⟩ : BufTy).Contents (Elt F) → (⟨S16384x400, .f32⟩ : BufTy).Contents (Elt F)),
    binary main_v36 main_v38 main_v39 (addf : (⟨S16384x400, .f32⟩ : BufTy).Contents (Elt F) → (⟨S16384x400, .f32⟩ : BufTy).Contents (Elt F) → (⟨S16384x400, .f32⟩ : BufTy).Contents (Elt F)),
    TRef.nullary (.of main_call3_cst : TRef sig ⟨S_, .f32⟩) (constant S_ .f32 0x00000000#32),
    TRef.unary (.of main_call3_cst : TRef sig ⟨S_, .f32⟩) (.of main_call3_v0 : TRef sig ⟨S16384x400, .f32⟩) (broadcastInDim S16384x400 ![] bcast_S_S16384x400),
    TRef.binary (.of main_v39) (.of main_call3_v0 : TRef sig ⟨S16384x400, .f32⟩) (.of main_v40 : TRef sig ⟨S16384x400, .f32⟩) maximumf,
    unary main_arg7 main_v41 ((transpose S400x784 [1, 0] · transposes_S784x400_S400x784_1_0) : (⟨S784x400, .f32⟩ : BufTy).Contents (Elt F) → (⟨S400x784, .f32⟩ : BufTy).Contents (Elt F)),
    binary main_v40 main_v41 main_v42 ((fun l r => Host.dotGeneral dot_S16384x400_S400x784_S16384x784_1_0_0_1_n_n none l r) : (⟨S16384x400, .f32⟩ : BufTy).Contents (Elt F) → (⟨S400x784, .f32⟩ : BufTy).Contents (Elt F) → (⟨S16384x784, .f32⟩ : BufTy).Contents (Elt F)),
    unary main_arg8 main_v43 (broadcastInDim S1x784 ![1] bcast_S784_S1x784_1 : (⟨S784, .f32⟩ : BufTy).Contents (Elt F) → (⟨S1x784, .f32⟩ : BufTy).Contents (Elt F)),
    unary main_v43 main_v44 (broadcastInDim S16384x784 ![0, 1] bcast_S1x784_S16384x784_0_1 : (⟨S1x784, .f32⟩ : BufTy).Contents (Elt F) → (⟨S16384x784, .f32⟩ : BufTy).Contents (Elt F)),
    binary main_v42 main_v44 main_v45 (addf : (⟨S16384x784, .f32⟩ : BufTy).Contents (Elt F) → (⟨S16384x784, .f32⟩ : BufTy).Contents (Elt F) → (⟨S16384x784, .f32⟩ : BufTy).Contents (Elt F)),
    unary main_v45 main_v46 (Host.negf : (⟨S16384x784, .f32⟩ : BufTy).Contents (Elt F) → (⟨S16384x784, .f32⟩ : BufTy).Contents (Elt F)),
    unary main_v46 main_v47 (Host.exp : (⟨S16384x784, .f32⟩ : BufTy).Contents (Elt F) → (⟨S16384x784, .f32⟩ : BufTy).Contents (Elt F)),
    nullary main_cst_2 (constant S_ .f32 0x3F800000#32),
    unary main_cst_2 main_v48 (broadcastInDim S16384x784 ![] bcast_S_S16384x784 : (⟨S_, .f32⟩ : BufTy).Contents (Elt F) → (⟨S16384x784, .f32⟩ : BufTy).Contents (Elt F)),
    binary main_v48 main_v47 main_v49 (addf : (⟨S16384x784, .f32⟩ : BufTy).Contents (Elt F) → (⟨S16384x784, .f32⟩ : BufTy).Contents (Elt F) → (⟨S16384x784, .f32⟩ : BufTy).Contents (Elt F)),
    nullary main_cst_3 (constant S_ .f32 0x3F800000#32),
    unary main_cst_3 main_v50 (broadcastInDim S16384x784 ![] bcast_S_S16384x784 : (⟨S_, .f32⟩ : BufTy).Contents (Elt F) → (⟨S16384x784, .f32⟩ : BufTy).Contents (Elt F)),
    binary main_v50 main_v49 main_v51 (Host.divf : (⟨S16384x784, .f32⟩ : BufTy).Contents (Elt F) → (⟨S16384x784, .f32⟩ : BufTy).Contents (Elt F) → (⟨S16384x784, .f32⟩ : BufTy).Contents (Elt F)) ]

/-- @main's operations, in order. -/
abbrev ops : List (HloOp τ sig (Elt F)) :=
  opsEmbed ++ (opsScore ++ (opsNearest ++ (opsTake ++ (opsStraight ++ (opsRecon)))))

/-- @main is that straight line. -/
theorem main_eq (c : Dev nD) : main (F := F) c = seq ops := rfl

/-- What the operations of the embedding and its three-axis form write. -/
abbrev opsEmbedW : List (Ref sig .tc) :=
  [main_v0, main_v1, main_v2, main_v3, main_v4, main_call0_cst, main_call0_v0, main_v5, main_v6, main_v7, main_v8, main_v9, main_v10, main_v11]
theorem opsEmbed_writes : (opsEmbed : List (HloOp τ sig (Elt F))).Forall fun op => op.writes ⊆ ((opsEmbedW).map (Proc.devRef (τ := τ) .tc)).toFinset :=
  forall_writes_sub_of_map rfl
theorem opsEmbed_sub : (opsEmbed : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub ..⟩

/-- What the operations of the table of distances write. -/
abbrev opsScoreW : List (Ref sig .tc) :=
  [main_v12, main_v13, main_v14, main_cst, main_v15, main_v16, main_cst_0, main_v17, main_v18, main_v19, main_v20, main_v21, main_v22, main_v23, main_cst_1, main_v24, main_v25, main_v26, main_v27]
theorem opsScore_writes : (opsScore : List (HloOp τ sig (Elt F))).Forall fun op => op.writes ⊆ ((opsScoreW).map (Proc.devRef (τ := τ) .tc)).toFinset :=
  forall_writes_sub_of_map rfl
theorem opsScore_sub : (opsScore : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- What the operations of the index of the nearest code write. -/
abbrev opsNearestW : List (Ref sig .tc) :=
  [main_call1_v0, main_call1_cst, main_call1_c, main_call1_v1_0, main_v28]
theorem opsNearest_writes : (opsNearest : List (HloOp τ sig (Elt F))).Forall fun op => op.writes ⊆ ((opsNearestW).map (Proc.devRef (τ := τ) .tc)).toFinset :=
  forall_writes_sub_of_map rfl
theorem opsNearest_sub : (opsNearest : List (HloOp τ sig (Elt F))).Forall fun op => op.bufs ⊆ tcRefs τ sig :=
  ⟨nullary_bufs_sub .., nullary_bufs_sub .., nullary_bufs_sub .., quaternary_bufs_sub .., quaternary_bufs_sub ..⟩

/-- What the operations of the codes taken at those indices write. -/
abbrev opsTakeW : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v29]
theorem opsTake_writes : (opsTake : List (HloOp τ sig (Elt F))).Forall fun op => op.writes ⊆ ((opsTakeW).map (Proc.devRef (τ := τ) .tc)).toFinset :=
  forall_writes_sub_of_map rfl
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- What the operations of the codes as rows, with the embedding added and taken off again write. -/
abbrev opsStraightW : List (Ref sig .tc) :=
  [main_v30, main_v31, main_v32, main_v33, main_v34]
theorem opsStraight_writes : (opsStraight : List (HloOp τ sig (Elt F))).Forall fun op => op.writes ⊆ ((opsStraightW).map (Proc.devRef (τ := τ) .tc)).toFinset :=
  forall_writes_sub_of_map rfl
theorem opsStraight_sub : (opsStraight : List (HloOp τ sig (Elt F))).Forall fun op => op.bufs ⊆ tcRefs τ sig :=
  ⟨reshape_bufs_sub .., unary_bufs_sub .., reshape_bufs_sub .., binary_bufs_sub .., binary_bufs_sub ..⟩

/-- What the operations of the reconstruction write. -/
abbrev opsReconW : List (Ref sig .tc) :=
  [main_v35, main_v36, main_v37, main_v38, main_v39, main_call3_cst, main_call3_v0, main_v40, main_v41, main_v42, main_v43, main_v44, main_v45, main_v46, main_v47, main_cst_2, main_v48, main_v49, main_cst_3, main_v50, main_v51]
theorem opsRecon_writes : (opsRecon : List (HloOp τ sig (Elt F))).Forall fun op => op.writes ⊆ ((opsReconW).map (Proc.devRef (τ := τ) .tc)).toFinset :=
  forall_writes_sub_of_map rfl
theorem opsRecon_sub : (opsRecon : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Every operation touches TensorCore references only. -/
theorem ops_sub : (ops : List (HloOp τ sig (Elt F))).Forall fun op => op.bufs ⊆ tcRefs τ sig := by
  simp only [ops, List.forall_append]
  exact ⟨opsEmbed_sub, opsScore_sub, opsNearest_sub, opsTake_sub, opsStraight_sub, opsRecon_sub⟩

/-- Operations in two stretches, one after the other. -/
theorem after_append (A B : List (HloOp τ sig (Elt F))) (V : Valuation τ sig (Elt F)) : after (A ++ B) V = after B (after A V) := by
  induction A generalizing V with
  | nil => rfl
  | cons op A ih => exact ih _

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- A buffer that no operation writes keeps its contents. -/
theorem kept (V : Valuation τ sig (Elt F)) {r : Ref sig .tc}
    (h : r ∉ opsEmbedW ++ (opsScoreW ++ (opsNearestW ++ (opsTakeW ++ (opsStraightW ++ opsReconW))))) :
    after ops V (Proc.devRef .tc r) = V (Proc.devRef .tc r) := by
  simp only [List.mem_append, not_or] at h
  obtain ⟨h1, h2, h3, h4, h5, h6⟩ := h
  simp only [ops, after_append]
  rw [after_of_writes_sub _ _ opsRecon_writes h6, after_of_writes_sub _ _ opsStraight_writes h5, after_of_writes_sub _ _ opsTake_writes h4,
    after_of_writes_sub _ _ opsNearest_writes h3, after_of_writes_sub _ _ opsScore_writes h2, after_of_writes_sub _ _ opsEmbed_writes h1]

end Cert.Proof.RefRun

end
-- ==== Proof.RefRead.lean ====
/-
  The reference's embedding, distances, quantised rows and reconstruction, each read at an index of what its stretch of
  operations leaves, in terms of the row functions of Spec.lean.
-/
module

public import proofs.«01_k».proof.Proof.RefRun
public import proofs.«01_k».proof.Proof.Spec
public import proofs.«01_k».proof.Proof.Consts
public import Idealize.ShloMosaic.Lib.StableHlo.ReadAt
public import Idealize.ShloMosaic.Lib.Pointwise
public import Idealize.ShloMosaic.Lib.Pointwise.IndexVar

@[expose] public section

set_option maxRecDepth 16384

noncomputable section

namespace Cert.Proof.RefRead

open Cert.ReferenceIdeal Cert.ReferenceIdeal.Gen
open Idealize.ShloMosaic Idealize.ShloMosaic.TcCoe Idealize.ShloMosaic.StableHlo
open Winner Spec RefRun
open scoped BigOperators

/-- The contents of the reference's buffers. -/
abbrev Mem := Valuation τ sig (Elt Ideal)

/-- The weights, the biases and the codebook that the argument buffers hold. -/
def params (V : Mem) : Params where
  w1 i k := (V (Proc.devRef .tc main_arg1) : Vec Ideal S400x784 .f32) (ix2 i k)
  b1 i := (V (Proc.devRef .tc main_arg2) : Vec Ideal S400 .f32) (ix1 i)
  w2 j i := (V (Proc.devRef .tc main_arg3) : Vec Ideal S200x400 .f32) (ix2 j i)
  b2 j := (V (Proc.devRef .tc main_arg4) : Vec Ideal S200 .f32) (ix1 j)
  w3 i j := (V (Proc.devRef .tc main_arg5) : Vec Ideal S400x200 .f32) (ix2 i j)
  b3 i := (V (Proc.devRef .tc main_arg6) : Vec Ideal S400 .f32) (ix1 i)
  w4 n i := (V (Proc.devRef .tc main_arg7) : Vec Ideal S784x400 .f32) (ix2 n i)
  b4 n := (V (Proc.devRef .tc main_arg8) : Vec Ideal S784 .f32) (ix1 n)
  cb k e := (V (Proc.devRef .tc main_arg9) : Vec Ideal S16x10 .f32) (ix2 k e)

/-- A row of the batch. -/
def inp (V : Mem) (r : Fin 16384) : Fin 784 → EReal := fun k => (V (Proc.devRef .tc main_arg0) : Vec Ideal S16384x784 .f32) (ix2 r k)

/-- The row functions with each product's factors in the other order. -/
theorem h2_comm (P : Params) (x : Fin 784 → EReal) (j : Fin 200) :
    h2 P x j = (∑ i, max ((∑ k, x k * P.w1 i k) + P.b1 i) 0 * P.w2 j i) + P.b2 j := by
  simp only [h2, h1]
  congr 1
  refine Finset.sum_congr rfl fun i _ => ?_
  rw [mul_comm]
  congr 3
  exact Finset.sum_congr rfl fun k _ => mul_comm _ _

/-- The embedding, -/
theorem embed (V : Mem) (r : Fin 16384) (j : Fin 200) :
    (after opsEmbed V (Proc.devRef .tc main_v10) : Vec Ideal S16384x200 .f32) (ix2 r j) = h2 (params V) (inp V r) j := by
  after_reads_at
  exact (h2_comm (params V) (inp V r) j).symm

/-- and its three-axis form. -/
theorem embed3 (V : Mem) (r : Fin 16384) (e : Fin 10) (s : Fin 20) :
    (after opsEmbed V (Proc.devRef .tc main_v11) : Vec Ideal S16384x10x20 .f32) (ix3 r e s) = h2 (params V) (inp V r) (at_ e s) := by
  after_reads_at
  exact (h2_comm (params V) (inp V r) (at_ e s)).symm

/-- The table of distances: row `n` holds the distances of the vector at row `n / 20` and place `n % 20`. -/
theorem dist (V : Mem) (n : Fin 327680) (k : Fin 16) :
    (after opsScore V (Proc.devRef .tc main_v27) : Vec Ideal S327680x16 .f32) (ix2 n k)
      = fullScore (params V).cb (fun e => (V (Proc.devRef .tc main_v11) : Vec Ideal S16384x10x20 .f32) (ix3 ⟨n.val / 20, by omega⟩ e ⟨n.val % 20, by omega⟩)) k := by
  after_reads_at
  rw [Consts.two]
  rfl

/-- The quantised rows: the taken codes laid out as rows, with the embedding added and taken off again. -/
theorem straight (V : Mem) (r : Fin 16384) (j : Fin 200) (a b : EReal)
    (ha : (V (Proc.devRef .tc main_v29) : Vec Ideal S327680x10 .f32) (ix2 ⟨r.val * 20 + (place j).val, by omega⟩ (comp j)) = a)
    (hb : (V (Proc.devRef .tc main_v10) : Vec Ideal S16384x200 .f32) (ix2 r j) = b) :
    (after opsStraight V (Proc.devRef .tc main_v34) : Vec Ideal S16384x200 .f32) (ix2 r j) = a + b - b := by
  subst ha hb
  after_reads_at
  rfl

/-- The reconstruction, from the quantised rows. -/
theorem recon (V : Mem) (r : Fin 16384) (n : Fin 784) :
    (after opsRecon V (Proc.devRef .tc main_v51) : Vec Ideal S16384x784 .f32) (ix2 r n)
      = Ideal.logistic ((∑ i, (params V).w4 n i * max ((∑ j, (params V).w3 i j * (V (Proc.devRef .tc main_v34) : Vec Ideal S16384x200 .f32) (ix2 r j)) + (params V).b3 i) 0) + (params V).b4 n) := by
  after_reads_at
  show Ideal.div 1 (1 + Ideal.exp (-_)) = Ideal.div 1 (1 + Ideal.exp (-_))
  congr 4
  congr 1
  refine Finset.sum_congr rfl fun i _ => ?_
  rw [mul_comm]
  congr 3
  exact Finset.sum_congr rfl fun k _ => mul_comm _ _

end Cert.Proof.RefRead

end
-- ==== Proof.RefNearest.lean ====
/-
  The reference's index of the nearest code, and the code taken at it.
-/
module

public import proofs.«01_k».proof.Proof.RefRun
public import proofs.«01_k».proof.Proof.Spec
public import proofs.«01_k».proof.Proof.Rounds
public import proofs.«01_k».proof.Proof.Consts
public import Idealize.ShloMosaic.Lib.StableHlo.ReadAt
public import Idealize.ShloMosaic.Lib.Pointwise
public import Idealize.ShloMosaic.Lib.Pointwise.IndexVar
public import Idealize.ShloMosaic.Lib.Routing.Ops

@[expose] public section

set_option maxRecDepth 16384

noncomputable section

namespace Cert.Proof.RefNearest

open Cert.ReferenceIdeal Cert.ReferenceIdeal.Gen
open Idealize.ShloMosaic Idealize.ShloMosaic.TcCoe Idealize.ShloMosaic.StableHlo
open Winner Spec RefRun Rounds
open scoped BigOperators

/-- One step of the printed arg-min on two pairs of a number and a code: the smaller number, the smaller code on a tie. -/
theorem reducer_word (d : Fin 16 → EReal) (a b : Fin 16) :
    reducer_argmin_f32_i32 (F := Ideal) (d a, word a) (d b, word b) = if d a < d b ∨ d a = d b ∧ a < b then (d a, word a) else (d b, word b) := by
  unfold reducer_argmin_f32_i32
  simp only [slt_word, Ideal.cmpf_def, Ideal.cmp]
  by_cases h : d a < d b
  · simp [h, h.ne, Scalar.select, IntOp.ori, IntOp.andi]
  · by_cases he : d a = d b
    · by_cases hl : a < b <;> simp [h, he, hl, Scalar.select, IntOp.ori, IntOp.andi]
    · simp [h, he, Scalar.select, IntOp.ori, IntOp.andi]

/-- Its first step, from plus infinity. -/
theorem reducer_first (v : EReal) (hv : v < ⊤) (c : BitVec 32) : reducer_argmin_f32_i32 (F := Ideal) ((⊤ : EReal), 0#32) (v, c) = (v, c) := by
  unfold reducer_argmin_f32_i32
  simp only [Ideal.cmpf_def, Ideal.cmp]
  have h1 : ¬ ((⊤ : EReal) < v) := not_lt.2 le_top
  have h2 : ¬ ((⊤ : EReal) = v) := fun h => absurd hv (by rw [← h]; exact lt_irrefl _)
  simp [h2, Scalar.select, IntOp.ori, IntOp.andi]

/-- The column of a row-major position of the table of distances. -/
def column (m : Fin S327680x16.numel) : Fin 16 := (S327680x16.rowMajor.symm m) 1

/-- The index of the nearest code, as a word: the smallest distance's column, the first of them on a tie. -/
theorem nearest (V : Valuation τ sig (Elt Ideal)) (n : Fin 327680) (d : Fin 16 → EReal) (hlt : ∀ k, d k < ⊤)
    (hd : ∀ k, (V (Proc.devRef .tc main_v27) : Vec Ideal S327680x16 .f32) (ix2 n k) = d k) :
    (after opsNearest V (Proc.devRef .tc main_v28) : IVec S327680 32) (ix1 n) = word (best d) := by
  after_results_simp
  simp -implicitDefEqProofs only [StableHlo.TRef.toBuf, StableHlo.TRef.ofBuf, cast_cast, cast_eq]
  clean_types
  rw [Ideal.argReduce_eq_reduce2]
  unfold Host.reduce2
  have hat : ∀ m ∈ List.filter (fun m => decide (reducesTo_S327680x16_S327680_d1.drop (S327680x16.rowMajor.symm m) = ix1 n)) (List.finRange S327680x16.numel),
      S327680x16.rowMajor.symm m = ix2 n (column m) := fun m hm => by
    have h : reducesTo_S327680x16_S327680_d1.drop (S327680x16.rowMajor.symm m) = ix1 n := of_decide_eq_true (List.mem_filter.1 hm).2
    have h0 : ((S327680x16.rowMajor.symm m) 0).val = n.val := congrArg Fin.val (congrFun h 0)
    funext a
    match a with
    | ⟨0, _⟩ => exact Fin.ext h0
    | ⟨1, _⟩ => rfl
  have hcol : ∀ k, ∃ m ∈ List.filter (fun m => decide (reducesTo_S327680x16_S327680_d1.drop (S327680x16.rowMajor.symm m) = ix1 n)) (List.finRange S327680x16.numel),
      column m = k := fun k => ⟨S327680x16.rowMajor (ix2 n k), List.mem_filter.2 ⟨List.mem_finRange _, decide_eq_true (by
    rw [Equiv.symm_apply_apply]
    funext a
    match a with
    | ⟨0, _⟩ => rfl)⟩, by rw [column, Equiv.symm_apply_apply]; rfl⟩
  rw [List.foldl_ext _ (fun r m => reducer_argmin_f32_i32 (F := Ideal) r (d (column m), word (column m))) _ fun r m hm => by rw [hat m hm, hd]; rfl]
  have := foldl_best d hlt word (reducer_argmin_f32_i32 (F := Ideal)) 0#32 _ column hcol (fun k => reducer_first _ (hlt k) _) (reducer_word d)
  have hT : (constant S_ .f32 0x7F800000#32 : FVec Ideal S_ .f32) (Shape.Idx.first h_S_) = (⊤ : EReal) := Consts.infinity
  have hI : (constantI S_ 32 0#32 : IVec S_ 32) (Shape.Idx.first h_S_) = 0#32 := rfl
  rw [hT, hI, this]

/-- The code taken at an index word that holds a code's number: that code. -/
theorem taken (V : Valuation τ sig (Elt Ideal)) (n : Fin 327680) (k : Fin 16) (e : Fin 10)
    (hk : (V (Proc.devRef .tc main_v28) : IVec S327680 32) (ix1 n) = word k) :
    (after opsTake V (Proc.devRef .tc main_v29) : Vec Ideal S327680x10 .f32) (ix2 n e) = (V (Proc.devRef .tc main_arg9) : Vec Ideal S16x10 .f32) (ix2 k e) := by
  have h0 : ∀ k : Fin 16, Scalar.select (IntOp.cmpi .slt (word k) 0#32) (IntOp.addi (word k) 16#32) (word k) = word k := by decide
  have h1 : ∀ k : Fin 16, IntOp.andi (IntOp.cmpi .sge (word k) 0#32) (IntOp.cmpi .sle (word k) 15#32) = 1#1 := by decide
  after_reads_at
  simp only [hk, h0, h1]
  rw [show (Finset.fold IntOp.andi (1#1) (fun _ : Fin 1 => 1#1) Finset.univ) = 1#1 from rfl]
  refine Eq.trans (if_pos rfl) ?_
  refine Routing.gather_row _ rfl rfl rfl rfl rfl _ _ n e k ?_ (by norm_num)
  pointwise
  rw [hk, h0]
  rfl

end Cert.Proof.RefNearest

end
-- ==== Proof.RefValue.lean ====
/-
  The reference's three results, each at an index, from the launch contents: the reconstruction, the embedding and the
  quantised rows of Spec.lean. The last two stretches add the embedding to the codes and take it off again, which
  changes nothing where the embedding is real; the distances differ from the scores by a term that does not depend on the
  code, so the two have the same nearest code where the numbers are real.
-/
module

public import proofs.«01_k».proof.Proof.RefRead
public import proofs.«01_k».proof.Proof.RefNearest

@[expose] public section

noncomputable section

namespace Cert.Proof.RefValue

open Cert.ReferenceIdeal Cert.ReferenceIdeal.Gen
open Idealize.ShloMosaic Idealize.ShloMosaic.TcCoe Idealize.ShloMosaic.StableHlo
open Winner Spec RefRun RefRead RefNearest

/-- A stretch that writes no weight leaves the weights. -/
theorem params_after (A : List (HloOp τ sig (Elt Ideal))) {W : List (Ref sig .tc)} (V : Mem)
    (hW : A.Forall fun op => op.writes ⊆ (W.map (Proc.devRef (τ := τ) .tc)).toFinset)
    (hn : ∀ r ∈ [main_arg1, main_arg2, main_arg3, main_arg4, main_arg5, main_arg6, main_arg7, main_arg8, main_arg9], r ∉ W) :
    params (after A V) = params V := by
  simp only [List.forall_mem_cons] at hn
  obtain ⟨n1, n2, n3, n4, n5, n6, n7, n8, n9, -⟩ := hn
  unfold params
  rw [after_of_writes_sub A V hW n1, after_of_writes_sub A V hW n2, after_of_writes_sub A V hW n3, after_of_writes_sub A V hW n4,
    after_of_writes_sub A V hW n5, after_of_writes_sub A V hW n6, after_of_writes_sub A V hW n7, after_of_writes_sub A V hW n8, after_of_writes_sub A V hW n9]

section
variable (V : Mem)

/-- The buffers after each stretch but the last. -/
def V1 : Mem := after opsEmbed V
def V2 : Mem := after opsScore (V1 V)
def V3 : Mem := after opsNearest (V2 V)
def V4 : Mem := after opsTake (V3 V)
def V5 : Mem := after opsStraight (V4 V)

theorem after_ops : after ops V = after opsRecon (V5 V) := by simp only [ops, after_append]; rfl

theorem params1 : params (V1 V) = params V := params_after _ V opsEmbed_writes (by decide)
theorem params2 : params (V2 V) = params V := (params_after _ _ opsScore_writes (by decide)).trans (params1 V)
theorem params3 : params (V3 V) = params V := (params_after _ _ opsNearest_writes (by decide)).trans (params2 V)
theorem params4 : params (V4 V) = params V := (params_after _ _ opsTake_writes (by decide)).trans (params3 V)
theorem params5 : params (V5 V) = params V := (params_after _ _ opsStraight_writes (by decide)).trans (params4 V)

/-- The second result: the embedding. -/
theorem result2 (r : Fin 16384) (e : Fin 10) (s : Fin 20) :
    (after ops V (Proc.devRef .tc main_v11) : Vec Ideal S16384x10x20 .f32) (ix3 r e s) = h2 (params V) (inp V r) (at_ e s) := by
  rw [after_ops, after_of_writes_sub _ _ opsRecon_writes (by decide), V5, after_of_writes_sub _ _ opsStraight_writes (by decide),
    V4, after_of_writes_sub _ _ opsTake_writes (by decide), V3, after_of_writes_sub _ _ opsNearest_writes (by decide),
    V2, after_of_writes_sub _ _ opsScore_writes (by decide)]
  exact embed3 V r e s

variable (hcb : ∀ k e, Real ((params V).cb k e)) (hz : ∀ r j, Real (h2 (params V) (inp V r) j))
include hcb hz

/-- The code taken for row `r` and place `s`. -/
theorem code_taken (r : Fin 16384) (s : Fin 20) (e : Fin 10) :
    (V4 V (Proc.devRef .tc main_v29) : Vec Ideal S327680x10 .f32) (ix2 ⟨r.val * 20 + s.val, by omega⟩ e) = (params V).cb (code (params V) (inp V r) s) e := by
  have hr : (⟨(r.val * 20 + s.val) / 20, by omega⟩ : Fin 16384) = r := Fin.ext (by show (r.val * 20 + s.val) / 20 = r.val; omega)
  have hs : (⟨(r.val * 20 + s.val) % 20, by omega⟩ : Fin 20) = s := Fin.ext (by show (r.val * 20 + s.val) % 20 = s.val; omega)
  have hd : ∀ k, (V2 V (Proc.devRef .tc main_v27) : Vec Ideal S327680x16 .f32) (ix2 ⟨r.val * 20 + s.val, by omega⟩ k)
      = fullScore (params V).cb (fun e => h2 (params V) (inp V r) (at_ e s)) k := fun k => by
    refine (dist (V1 V) _ k).trans ?_
    rw [params1]
    refine congrArg (fun z => fullScore (params V).cb z k) (funext fun e => ?_)
    rw [hr, hs]
    exact embed3 V r e s
  have hk := nearest (V2 V) ⟨r.val * 20 + s.val, by omega⟩ _ (fullScore_lt hcb fun e => hz r _) hd
  rw [best_fullScore hcb fun e => hz r _] at hk
  refine (taken (V3 V) _ _ e hk).trans ?_
  exact congrArg (fun P : Params => P.cb (code (params V) (inp V r) s) e) (params3 V)

/-- The quantised rows, after the fifth stretch, -/
theorem quantised (r : Fin 16384) (j : Fin 200) :
    (V5 V (Proc.devRef .tc main_v34) : Vec Ideal S16384x200 .f32) (ix2 r j) = quant (params V) (inp V r) j := by
  refine (straight (V4 V) r j _ _ (code_taken V hcb hz r (place j) (comp j)) ?_).trans (Real.add_sub_cancel (hz r j) _)
  rw [V4, after_of_writes_sub _ _ opsTake_writes (by decide), V3, after_of_writes_sub _ _ opsNearest_writes (by decide),
    V2, after_of_writes_sub _ _ opsScore_writes (by decide)]
  exact embed V r j

/-- and at the end: the third result. -/
theorem result3 (r : Fin 16384) (j : Fin 200) :
    (after ops V (Proc.devRef .tc main_v34) : Vec Ideal S16384x200 .f32) (ix2 r j) = quant (params V) (inp V r) j := by
  rw [after_ops, after_of_writes_sub _ _ opsRecon_writes (by decide)]
  exact quantised V hcb hz r j

/-- The first result: the reconstruction. -/
theorem result1 (r : Fin 16384) (n : Fin 784) :
    (after ops V (Proc.devRef .tc main_v51) : Vec Ideal S16384x784 .f32) (ix2 r n) = Ideal.logistic (h4 (params V) (inp V r) n) := by
  rw [after_ops]
  refine (recon (V5 V) r n).trans ?_
  rw [params5]
  simp only [quantised V hcb hz]
  rfl

end

end Cert.Proof.RefValue

end
-- ==== Proof.RefFrame.lean ====
/-
  The reference's run: it ends with each buffer at what its operations leave (`run`); its arguments end as they were, and
  it declares no semaphore (`frame`).
-/
module

public import proofs.«01_k».proof.Proof.RefRun
public import Idealize.ShloMosaic.PureOps.Ideal
public import Idealize.ShloMosaic.Lib.Quiescent

@[expose] public section

noncomputable section

namespace Cert.Proof.RefFrame

open Cert.ReferenceIdeal Cert.ReferenceIdeal.Gen
open Idealize.ShloMosaic Idealize.ShloMosaic.TcCoe Idealize.ShloMosaic.StableHlo Idealize.SL.Sem
open RefRun

variable (m : (ℓ : Loc nD τ sig) → Buf (Elt Ideal) ℓ) (ρ : Dev nD → PrngReg)

/-- The run, buffer by buffer. -/
theorem run : θ_run defs (onTc (τ := τ) (main (F := Ideal))) ⟨m, fun _ => 0, ρ⟩ fun r => ∀ (c : Dev nD) (b : Ref sig .tc),
    r.2.mem ((c.tc : Thread nD τ).loc b) = after ops (launchContents m c) (Proc.devRef .tc b) :=
  run_seq scopedRefs_eq scopedSems_eq defs main (fun _ => ops) main_eq (fun _ => ops_sub) m ρ

/-- What the run leaves in a buffer that no operation writes. -/
theorem unwritten {r : PUnit × MemSt nD τ sig (Elt Ideal)} (c : Dev nD)
    (h : ∀ b : Ref sig .tc, r.2.mem ((c.tc : Thread nD τ).loc b) = after ops (launchContents m c) (Proc.devRef .tc b))
    (b : Ref sig .tc) (hb : b ∉ opsEmbedW ++ (opsScoreW ++ (opsNearestW ++ (opsTakeW ++ (opsStraightW ++ opsReconW))))) :
    r.2.mem ((c.tc : Thread nD τ).loc b) = m ((c.tc : Thread nD τ).loc b) :=
  (h b).trans (kept _ hb)

/-- The frame: the arguments end as they were, and no semaphore is declared. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
    ⟨unwritten m c (h c) _ (by decide), unwritten m c (h c) _ (by decide), unwritten m c (h c) _ (by decide),
      unwritten m c (h c) _ (by decide), unwritten m c (h c) _ (by decide), unwritten m c (h c) _ (by decide),
      unwritten m c (h c) _ (by decide), unwritten m c (h c) _ (by decide), unwritten m c (h c) _ (by decide),
      unwritten m c (h c) _ (by decide)⟩, sem_eq_zero_of_no_sems (by decide) _⟩) (run m ρ)

end Cert.Proof.RefFrame

end
-- ==== Proof.Finite.lean ====
/-
  The precondition, read at an element: where it holds, each entry of the batch, of the encoder's weights and biases and of
  the codebook is a real number.
-/
module

public import proofs.«01_k».proof.Defs
public import proofs.«01_k».proof.Proof.Gen.Pre_finite
public import proofs.«01_k».proof.Proof.Spec
public import proofs.«01_k».proof.Proof.Consts
public import Idealize.ShloMosaic.Lib.ReduceAll

@[expose] public section

noncomputable section

namespace Cert.Proof.Finite

open Cert.Pre_finite
open Idealize.ShloMosaic Spec

/-- A number whose absolute value is below plus infinity is real. -/
theorem real_of_abs {a : EReal} (h : max a (-a) < ⊤) : Real a := by
  refine ⟨a.toReal, (EReal.coe_toReal ?_ ?_).symm⟩
  · rintro rfl; exact absurd (lt_of_le_of_lt (le_max_left _ _) h) (lt_irrefl _)
  · rintro rfl; exact absurd (lt_of_le_of_lt (le_max_right _ _) h) (by simp)

/-- An array whose absolute values are all below plus infinity holds real numbers. -/
theorem real_of_all {s : Shape} {axes : List (Fin s.rank)} (x b : FVec Ideal s .f32) (one : IVec S_ 1) (hb : ∀ i, b i = (⊤ : EReal))
    (h : s.ReducesTo axes S_) (hu : 0 < S_.numel) (j : S_.Idx) (e : Host.reduce IntOp.andi (cmpf .olt (Host.absf x) b) one h hu j = 1#1) (i : s.Idx) : Real (x i) := by
  have : Subsingleton S_.Idx := ⟨fun a b => funext fun k => k.elim0⟩
  have hi : Ideal.cmp .olt (max (x i) (-(x i))) (b i) = 1#1 := Host.reduce_andi_all _ one h hu j e i
  rw [hb i] at hi
  refine real_of_abs ?_
  by_contra hn
  simp [Ideal.cmp, hn] at hi

/-- A bitwise conjunction of two arrays is one where both are. -/
theorem andi_one {a b : IVec S_ 1} {j : S_.Idx} (h : andi a b j = 1#1) : a j = 1#1 ∧ b j = 1#1 := IntOp.andi_eq_one.1 h

/-- The spread word of plus infinity. -/
theorem spread {s : Shape} (dims : Fin S_.rank → Fin s.rank) (h : S_.BroadcastsInDim s dims) (i : s.Idx) :
    (broadcastInDim s dims h (constant (F := Ideal) S_ .f32 0x7F800000#32) : FVec Ideal s .f32) i = (⊤ : EReal) := Consts.infinity

/-- The precondition at the six arrays that it reads. -/
theorem all_real (x0 : FVec Ideal S16384x784 .f32) (x1 : FVec Ideal S400x784 .f32) (x2 : FVec Ideal S400 .f32) (x3 : FVec Ideal S200x400 .f32)
    (x4 : FVec Ideal S200 .f32) (x5 : FVec Ideal S400x200 .f32) (x6 : FVec Ideal S400 .f32) (x7 : FVec Ideal S784x400 .f32)
    (x8 : FVec Ideal S784 .f32) (x9 : FVec Ideal S16x10 .f32) (h : fn (F := Ideal) x0 x1 x2 x3 x4 x5 x6 x7 x8 x9 = fun _ => 1#1) :
    (∀ i, Real (x0 i)) ∧ (∀ i, Real (x1 i)) ∧ (∀ i, Real (x2 i)) ∧ (∀ i, Real (x3 i)) ∧ (∀ i, Real (x4 i)) ∧ ∀ i, Real (x9 i) := by
  have h0 := congrFun h (fun k => k.elim0)
  obtain ⟨h4, e9⟩ := andi_one h0
  obtain ⟨h3, e4⟩ := andi_one h4
  obtain ⟨h2, e3⟩ := andi_one h3
  obtain ⟨h1, e2⟩ := andi_one h2
  obtain ⟨e0, e1⟩ := andi_one h1
  exact ⟨real_of_all _ _ _ (spread _ _) _ _ _ e0, real_of_all _ _ _ (spread _ _) _ _ _ e1, real_of_all _ _ _ (spread _ _) _ _ _ e2,
    real_of_all _ _ _ (spread _ _) _ _ _ e3, real_of_all _ _ _ (spread _ _) _ _ _ e4, real_of_all _ _ _ (spread _ _) _ _ _ e9⟩

end Cert.Proof.Finite

end
-- ==== Proof.Equation.lean ====
/-
  The equation: from equal arguments that meet the precondition, the kernel and the reference end with the same three
  results.
-/
module

public import proofs.«01_k».proof.Proof.Run
public import proofs.«01_k».proof.Proof.RefValue
public import proofs.«01_k».proof.Proof.RefFrame
public import proofs.«01_k».proof.Proof.Finite

@[expose] public section

set_option maxRecDepth 16384

noncomputable section

namespace Cert.Proof.Equation

open Idealize.ShloMosaic Idealize.ShloMosaic.TcCoe Idealize.ShloMosaic.StableHlo Idealize.SL.Sem
open Winner Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments agree on a device. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

section
variable {m m'} {c : Dev Cert.KernelIdeal.nD} (ha : Agree m m' c)
include ha

/-- Then they hold the same weights, biases and codebook, -/
theorem params_eq : RefRead.params (launchContents m' c) = Prefix.params (Arrays.launch m c) := by
  obtain ⟨-, h1, h2, h3, h4, h5, h6, h7, h8, h9⟩ := ha
  exact Params.mk.injEq .. ▸ ⟨funext₂ fun i k => congrFun h1 (ix2 i k), funext fun i => congrFun h2 (ix1 i), funext₂ fun i k => congrFun h3 (ix2 i k),
    funext fun i => congrFun h4 (ix1 i), funext₂ fun i k => congrFun h5 (ix2 i k), funext fun i => congrFun h6 (ix1 i),
    funext₂ fun i k => congrFun h7 (ix2 i k), funext fun i => congrFun h8 (ix1 i), funext₂ fun i k => congrFun h9 (ix2 i k)⟩

/-- and the same rows of the batch. -/
theorem inp_eq (r : Fin 16384) : RefRead.inp (launchContents m' c) r = Prefix.inp (Arrays.launch m c) r := funext fun k => congrFun ha.1 (ix2 r k)

/-- The second result. -/
theorem ze_eq : after RefRun.ops (launchContents m' c) (Proc.devRef .tc Cert.ReferenceIdeal.main_v11) = Run.ze m c := by
  show (_ : Vec Ideal Cert.KernelIdeal.S16384x10x20 .f32) = _
  funext i
  idx_vars i
  refine (RefValue.result2 (launchContents m' c) i0 i1 i2).trans ?_
  rw [params_eq ha, inp_eq ha]
  rfl

variable (hp : Cert.Pre_KernelIdeal_finite (hPre_finite := Cert.Pre_finite.Gen.facts) m)
include hp

/-- The precondition makes the codebook and the embedding real. -/
theorem real_cb (k : Fin 16) (e : Fin 10) : Real ((RefRead.params (launchContents m' c)).cb k e) := by
  rw [params_eq ha]
  exact (Finite.all_real _ _ _ _ _ _ _ _ _ _ (hp c)).2.2.2.2.2 (ix2 k e)
theorem real_embed (r : Fin 16384) (j : Fin 200) : Real (h2 (RefRead.params (launchContents m' c)) (RefRead.inp (launchContents m' c) r) j) := by
  rw [params_eq ha, inp_eq ha]
  obtain ⟨h0, h1, h2, h3, h4, -⟩ := Finite.all_real _ _ _ _ _ _ _ _ _ _ (hp c)
  exact real_h2 (fun k => h0 (ix2 r k)) (fun i k => h1 (ix2 i k)) (fun i => h2 (ix1 i)) (fun j i => h3 (ix2 j i)) (fun j => h4 (ix1 j)) j

/-- The third result. -/
theorem zq_eq : after RefRun.ops (launchContents m' c) (Proc.devRef .tc Cert.ReferenceIdeal.main_v34) = Run.zq m c := by
  show (_ : Vec Ideal Cert.KernelIdeal.S16384x200 .f32) = _
  funext i
  idx_vars i
  refine (RefValue.result3 (launchContents m' c) (real_cb ha hp) (real_embed ha hp) i0 i1).trans ?_
  rw [params_eq ha, inp_eq ha]
  rfl

/-- The first result. -/
theorem recon_eq : after RefRun.ops (launchContents m' c) (Proc.devRef .tc Cert.ReferenceIdeal.main_v51) = Run.recon m c := by
  show (_ : Vec Ideal Cert.KernelIdeal.S16384x784 .f32) = _
  funext i
  idx_vars i
  refine (RefValue.result1 (launchContents m' c) (real_cb ha hp) (real_embed ha hp) i0 i1).trans ?_
  rw [params_eq ha, inp_eq ha]
  rfl

end

/-- The claim of equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨Run.recon m, Run.ze m, Run.zq m, Run.run m g, (θ_run Cert.ReferenceIdeal.defs _ _).mono ?_ (θ_run_and (RefFrame.run m' g') (RefFrame.frame m' g'))⟩
  exact fun _ h c => ⟨(h.1 c _).trans (recon_eq (ha c) hp), (h.1 c _).trans (ze_eq (ha c)), (h.1 c _).trans (zq_eq (ha c) hp), h.2.1 c⟩

end Cert.Proof.Equation

end
-- ==== Proof.lean ====
/-
  The certificate: the three frames, the preservation of the kernel by its idealization (nothing is rewritten) and the equality
  of the kernel's three results with the reference's (Proof/Equation.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => RefFrame.frame m ρ, fun m ρ _ => RefFrame.frame m ρ, trivial, Equation.algebraic⟩

end Cert.Proof

end
